-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S16384x4096 : Shape := ⟨2, ![16384, 4096]⟩
abbrev S4096x4096 : Shape := ⟨2, ![4096, 4096]⟩
abbrev S2x512x2048 : Shape := ⟨3, ![2, 512, 2048]⟩
abbrev S12 : Shape := ⟨1, ![12]⟩
abbrev S4 : Shape := ⟨1, ![4]⟩
abbrev S2 : Shape := ⟨1, ![2]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S512x4096 : Shape := ⟨2, ![512, 4096]⟩
abbrev S1024x4096 : Shape := ⟨2, ![1024, 4096]⟩

abbrev nBuf : Space → Nat
  | .hbm => 3
  | .vmem => 3
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S16384x4096, .bf16⟩
  | .local _ .vmem, ⟨0, _⟩ => ⟨S2048x4096, .bf16⟩
  | .local _ .vmem, ⟨1, _⟩ => ⟨S4096x4096, .bf16⟩
  | .local _ .vmem, ⟨2, _⟩ => ⟨S2x512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_60 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32 : BitVec 32 := 4096#32
  let v74 : BitVec 32 := Scalar.muli v2 c4096_i32
  let v75 : BitVec 32 := Scalar.addi v74 c0_i32_60
  let c0_i32_62 : BitVec 32 := 0#32
  ![v75.toNat, 0]
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_69 : BitVec 32 := 1#32
  let v82 : BitVec 32 := Scalar.muli v25 c1_i32_69
  let v83 : BitVec 32 := Scalar.addi c0_i32_70 v82
  v83.toNat
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_78 : BitVec 32 := 1#32
  let v92 : BitVec 32 := Scalar.muli v14 c1_i32_78
  let v93 : BitVec 32 := Scalar.addi c0_i32_79 v92
  v93.toNat
def k0_dev5 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_129 : BitVec 32 := 1#32
  let v146 : BitVec 32 := Scalar.muli v25 c1_i32_129
  let v147 : BitVec 32 := Scalar.addi c0_i32_130 v146
  v147.toNat
def k0_dev6 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_136 : BitVec 32 := 1#32
  let v156 : BitVec 32 := Scalar.muli v14 c1_i32_136
  let v157 : BitVec 32 := Scalar.addi c0_i32_137 v156
  v157.toNat
def k0_dev7 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_187 : BitVec 32 := 1#32
  let v210 : BitVec 32 := Scalar.muli v25 c1_i32_187
  let v211 : BitVec 32 := Scalar.addi c0_i32_188 v210
  v211.toNat
def k0_dev8 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_195 : BitVec 32 := 1#32
  let v220 : BitVec 32 := Scalar.muli v14 c1_i32_195
  let v221 : BitVec 32 := Scalar.addi c0_i32_196 v220
  v221.toNat
def k0_dev9 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_241 : BitVec 32 := 1#32
  let v269 : BitVec 32 := Scalar.muli v25 c1_i32_241
  let v270 : BitVec 32 := Scalar.addi c0_i32_242 v269
  v270.toNat
def k0_dev10 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_249 : BitVec 32 := 1#32
  let v279 : BitVec 32 := Scalar.muli v14 c1_i32_249
  let v280 : BitVec 32 := Scalar.addi c0_i32_250 v279
  v280.toNat
def k0_off2 (d0 : Dev nD) (c0_i32_255 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c4096_i32_254 : BitVec 32 := 4096#32
  let v287 : BitVec 32 := Scalar.muli v14 c4096_i32_254
  let v288 : BitVec 32 := Scalar.addi v287 c0_i32_255
  let c0_i32_260 : BitVec 32 := 0#32
  ![v288.toNat, 0]
def k0_dev11 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_268 : BitVec 32 := 1#32
  let v299 : BitVec 32 := Scalar.muli v25 c1_i32_268
  let v300 : BitVec 32 := Scalar.addi c0_i32_269 v299
  v300.toNat
def k0_dev12 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_286 : BitVec 32 := 1#32
  let v319 : BitVec 32 := Scalar.muli v25 c1_i32_286
  let v320 : BitVec 32 := Scalar.addi c0_i32_287 v319
  v320.toNat
def k0_off3 (d0 : Dev nD) (c1_i32_7 : BitVec 32) (c2048_i32_291 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c4096_i32_290 : BitVec 32 := 4096#32
  let v327 : BitVec 32 := Scalar.muli v25 c4096_i32_290
  let v328 : BitVec 32 := Scalar.addi v327 c2048_i32_291
  let c0_i32_296 : BitVec 32 := 0#32
  ![v328.toNat, 0]
def k0_dev13 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_304 : BitVec 32 := 1#32
  let v339 : BitVec 32 := Scalar.muli v14 c1_i32_304
  let v340 : BitVec 32 := Scalar.addi c0_i32_305 v339
  v340.toNat
def k0_dev14 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_322 : BitVec 32 := 1#32
  let v359 : BitVec 32 := Scalar.muli v14 c1_i32_322
  let v360 : BitVec 32 := Scalar.addi c0_i32_323 v359
  v360.toNat
abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x2048 : Shape := ⟨2, ![16384, 2048]⟩
abbrev S2048x4096 : Shape := ⟨2, ![2048, 4096]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S16384x4096, .f32⟩
  | .hbm, ⟨3, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Base.lean ====
/-
# The ring of devices, the memory pieces and what they hold

Device `c` computes the product of its block of `A` with `B` in eight tiles of 512 rows, and sends it to
both neighbours in four pieces of 1024 rows; two of the pieces it receives from each side it forwards.
This module names the neighbours, the pieces of the buffers (as sets of rows), the contents the run leaves
in them, and closes the kernel's offset and device chains.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Tactic

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The ring's rounds, duties named by `Bool`. -/
abbrev UB : Type := URounds (GSem nD τ sig) Bool
/-- The pipeline's rounds, the ring's, and the counters of the local transfers. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds in the machine's algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## The ring -/

set_option backward.proofsInPublic true in
/-- The device before `c`. -/
def lf (c : Dev nD) : Dev nD := ⟨(c.val + 3) % 4, Nat.mod_lt _ (by decide)⟩
set_option backward.proofsInPublic true in
/-- The device after `c`. -/
def rt (c : Dev nD) : Dev nD := ⟨(c.val + 1) % 4, Nat.mod_lt _ (by decide)⟩
set_option backward.proofsInPublic true in
/-- The device opposite `c`. -/
def dg (c : Dev nD) : Dev nD := ⟨(c.val + 2) % 4, Nat.mod_lt _ (by decide)⟩

theorem lf_rt (c : Dev nD) : lf (rt c) = c := by revert c; decide
theorem rt_lf (c : Dev nD) : rt (lf c) = c := by revert c; decide
theorem dg_rt (c : Dev nD) : dg (rt c) = lf c := by revert c; decide
theorem dg_lf (c : Dev nD) : dg (lf c) = rt c := by revert c; decide
theorem lf_lf (c : Dev nD) : lf (lf c) = dg c := by revert c; decide
theorem rt_rt (c : Dev nD) : rt (rt c) = dg c := by revert c; decide

/-- `lf` and `rt` are inverse to each other. -/
def ringL : Dev nD ≃ Dev nD := ⟨lf, rt, rt_lf, lf_rt⟩

theorem dev1_eq : ∀ c : Dev nD, (⟨k0_dev1 c, k0_dev1_lt c⟩ : Dev nD) = lf c := by decide +kernel
theorem dev2_eq : ∀ c : Dev nD, (⟨k0_dev2 c, k0_dev2_lt c⟩ : Dev nD) = rt c := by decide +kernel
theorem dev3_eq : ∀ c : Dev nD, (⟨k0_dev3 c, k0_dev3_lt c⟩ : Dev nD) = rt c := by decide +kernel
theorem dev4_eq : ∀ c : Dev nD, (⟨k0_dev4 c, k0_dev4_lt c⟩ : Dev nD) = lf c := by decide +kernel
theorem dev5_eq : ∀ c : Dev nD, (⟨k0_dev5 c, k0_dev5_lt c⟩ : Dev nD) = rt c := by decide +kernel
theorem dev6_eq : ∀ c : Dev nD, (⟨k0_dev6 c, k0_dev6_lt c⟩ : Dev nD) = lf c := by decide +kernel
theorem dev7_eq : ∀ c : Dev nD, (⟨k0_dev7 c, k0_dev7_lt c⟩ : Dev nD) = rt c := by decide +kernel
theorem dev8_eq : ∀ c : Dev nD, (⟨k0_dev8 c, k0_dev8_lt c⟩ : Dev nD) = lf c := by decide +kernel
theorem dev9_eq : ∀ c : Dev nD, (⟨k0_dev9 c, k0_dev9_lt c⟩ : Dev nD) = rt c := by decide +kernel
theorem dev10_eq : ∀ c : Dev nD, (⟨k0_dev10 c, k0_dev10_lt c⟩ : Dev nD) = lf c := by decide +kernel
theorem dev11_eq : ∀ c : Dev nD, (⟨k0_dev11 c, k0_dev11_lt c⟩ : Dev nD) = rt c := by decide +kernel
theorem dev12_eq : ∀ c : Dev nD, (⟨k0_dev12 c, k0_dev12_lt c⟩ : Dev nD) = rt c := by decide +kernel
theorem dev13_eq : ∀ c : Dev nD, (⟨k0_dev13 c, k0_dev13_lt c⟩ : Dev nD) = lf c := by decide +kernel
theorem dev14_eq : ∀ c : Dev nD, (⟨k0_dev14 c, k0_dev14_lt c⟩ : Dev nD) = lf c := by decide +kernel

theorem off2_eq : ∀ (c : Dev nD) (p : Fin 4), k0_off2 c (BitVec.ofNat 32 (1024 * p.val)) = ![4096 * (lf c).val + 1024 * p.val, 0] := by
  decide +kernel
theorem off3_eq1 : ∀ (c : Dev nD) (p : Fin 4), k0_off3 c 1#32 (BitVec.ofNat 32 (1024 * p.val)) = ![4096 * (rt c).val + 1024 * p.val, 0] := by
  decide +kernel
theorem off3_eq2 : ∀ (c : Dev nD) (p : Fin 4), k0_off3 c 2#32 (BitVec.ofNat 32 (1024 * p.val)) = ![4096 * (dg c).val + 1024 * p.val, 0] := by
  decide +kernel

/-! ## Sets of rows -/

/-- The indices whose coordinate on axis `a` lies in `[lo, lo + n)`. -/
def rows {s : Shape} (a : Fin s.rank) (lo n : ℕ) : Finset s.Idx :=
  Finset.univ.filter fun i => lo ≤ (i a : ℕ) ∧ (i a : ℕ) < lo + n

theorem mem_rows {s : Shape} {a : Fin s.rank} {lo n : ℕ} {i : s.Idx} : i ∈ rows a lo n ↔ lo ≤ (i a : ℕ) ∧ (i a : ℕ) < lo + n := by
  unfold rows; rw [Finset.mem_filter]; exact ⟨fun h => h.2, fun h => ⟨Finset.mem_univ _, h⟩⟩

theorem rows_disjoint {s : Shape} {a : Fin s.rank} {lo n lo' n' : ℕ} (h : lo + n ≤ lo' ∨ lo' + n' ≤ lo) :
    Disjoint (rows (s := s) a lo n) (rows a lo' n') := by
  rw [Finset.disjoint_left]; intro i hi hi'
  rw [mem_rows] at hi hi'; omega

theorem rows_union {s : Shape} (a : Fin s.rank) (lo n n' : ℕ) : rows (s := s) a lo n ∪ rows a (lo + n) n' = rows a lo (n + n') := by
  ext i; rw [Finset.mem_union, mem_rows, mem_rows, mem_rows]; omega

/-- Consecutive blocks of `n` rows, `T` of them, cover an axis of size `n * T`. -/
theorem rows_cover {s : Shape} (a : Fin s.rank) (n T : ℕ) (hT : s.size a = T * n) (hn : 0 < n) :
    (Finset.univ : Finset (Fin T)).biUnion (fun t => rows (s := s) a (n * t.val) n) = Finset.univ := by
  ext i
  rw [Finset.mem_biUnion]
  refine ⟨fun _ => Finset.mem_univ _, fun _ => ?_⟩
  have hi : (i a : ℕ) < T * n := hT ▸ (i a).isLt
  refine ⟨⟨(i a : ℕ) / n, Nat.div_lt_of_lt_mul (by rwa [Nat.mul_comm] at hi)⟩, Finset.mem_univ _, ?_⟩
  rw [mem_rows]
  have h := Nat.div_add_mod (i a : ℕ) n
  have h' := Nat.mod_lt (i a : ℕ) hn
  constructor
  · show n * ((i a : ℕ) / n) ≤ _; omega
  · show _ < n * ((i a : ℕ) / n) + n; omega

theorem rows_blocks_disjoint {s : Shape} (a : Fin s.rank) (n T : ℕ) (t t' : Fin T) (h : t ≠ t') :
    Disjoint (rows (s := s) a (n * t.val) n) (rows a (n * t'.val) n) := by
  apply rows_disjoint
  have h' : t.val ≠ t'.val := fun e => h (Fin.ext e)
  rcases Nat.lt_or_gt_of_ne h' with h | h
  · left; rw [← Nat.mul_succ]; exact Nat.mul_le_mul_left _ h
  · right; rw [← Nat.mul_succ]; exact Nat.mul_le_mul_left _ h

/-- A unit-stride rectangle that is whole on every other axis is a set of rows. -/
theorem rect_rows {s : Shape} (a : Fin s.rank) (off size : Fin s.rank → ℕ) (inb : ∀ b, off b + size b ≤ s.size b)
    (h : ∀ b, b ≠ a → off b = 0 ∧ size b = s.size b) : (Rect.unit (s := s) off size inb).set = rows a (off a) (size a) := by
  ext i
  rw [Rect.mem_set_unit, mem_rows]
  refine ⟨fun hi => hi a, fun hi b => ?_⟩
  by_cases hb : b = a
  · subst hb; exact hi
  · rw [(h b hb).1, (h b hb).2]; exact ⟨Nat.zero_le _, by rw [Nat.zero_add]; exact (i b).isLt⟩

/-! ## The memrefs -/

abbrev aW : Memref sig .tc .hbm S4096x2048 .bf16 := Memref.whole main_arg0
abbrev oW : Memref sig .tc .hbm S16384x4096 .bf16 := Memref.whole main_v1
abbrev bW : Memref sig .tc .vmem S2048x4096 .bf16 := Memref.whole cc0_stg0_0
abbrev cW : Memref sig .tc .vmem S4096x4096 .bf16 := Memref.whole cc0_scratch0
abbrev tW : Memref sig .tc .vmem S2x512x2048 .bf16 := Memref.whole cc0_scratch1

set_option backward.proofsInPublic true in
theorem inbA : ∀ (t : Fin 8) (a : Fin 2), (![512 * t.val, 0] : Fin 2 → ℕ) a + S512x2048.size a ≤ S4096x2048.size a := by decide
set_option backward.proofsInPublic true in
theorem inbC : ∀ (p : Fin 4) (a : Fin 2), (![1024 * p.val, 0] : Fin 2 → ℕ) a + S1024x4096.size a ≤ S4096x4096.size a := by decide
set_option backward.proofsInPublic true in
theorem inbT : ∀ (t : Fin 8) (a : Fin 2), (![512 * t.val, 0] : Fin 2 → ℕ) a + S512x4096.size a ≤ S4096x4096.size a := by decide
set_option backward.proofsInPublic true in
theorem inbO : ∀ (d : Dev nD) (p : Fin 4) (a : Fin 2), (![4096 * d.val + 1024 * p.val, 0] : Fin 2 → ℕ) a + S1024x4096.size a ≤ S16384x4096.size a := by
  decide
set_option backward.proofsInPublic true in
theorem inbS : ∀ (s : Fin 2) (a : Fin 3), (![s.val, 0, 0] : Fin 3 → ℕ) a + S1x512x2048.size a ≤ S2x512x2048.size a := by decide

/-- Tile `t` of `A` on a device: rows `[512 t, 512 t + 512)`. -/
abbrev aM (t : Fin 8) : Memref sig .tc .hbm S512x2048 .bf16 :=
  aW.slice (Rect.unit (s := S4096x2048) ![512 * t.val, 0] S512x2048.size (inbA t)) (fun _ => rfl)
/-- Piece `p` of the product buffer: rows `[1024 p, 1024 p + 1024)`. -/
abbrev cM (p : Fin 4) : Memref sig .tc .vmem S1024x4096 .bf16 :=
  cW.slice (Rect.unit (s := S4096x4096) ![1024 * p.val, 0] S1024x4096.size (inbC p)) (fun _ => rfl)
/-- Piece `p` of device `d`'s rows of the result. -/
abbrev oM (d : Dev nD) (p : Fin 4) : Memref sig .tc .hbm S1024x4096 .bf16 :=
  oW.slice (Rect.unit (s := S16384x4096) ![4096 * d.val + 1024 * p.val, 0] S1024x4096.size (inbO d p)) (fun _ => rfl)
/-- Slot `s` of the tile buffer. -/
abbrev sM (s : Fin 2) : Memref sig .tc .vmem S512x2048 .bf16 :=
  (tW.slice (Rect.unit (s := S2x512x2048) ![s.val, 0, 0] S1x512x2048.size (inbS s)) (fun _ => rfl)).squeeze S512x2048 squeezes_S1x512x2048_S512x2048

/-- A slice of the result at offsets equal to those of a piece is that piece. -/
theorem oM_of {off : Fin 2 → ℕ} {inb} (d : Dev nD) (p : Fin 4) (h : off = ![4096 * d.val + 1024 * p.val, 0]) :
    oW.slice (Rect.unit (s := S16384x4096) off S1024x4096.size inb) (fun _ => rfl) = oM d p := by subst h; rfl

theorem cset (p : Fin 4) : (cM p).view.set = rows (s := S4096x4096) 0 (1024 * p.val) 1024 := by
  show (((View.whole cc0_scratch0).slice _).set) = _
  rw [View.set_slice_whole]
  exact rect_rows (s := S4096x4096) 0 _ _ _ (fun b hb => by fin_cases b; · exact absurd rfl hb
                                                            · exact ⟨rfl, rfl⟩)
theorem aset (t : Fin 8) : (aM t).view.set = rows (s := S4096x2048) 0 (512 * t.val) 512 := by
  show (((View.whole main_arg0).slice _).set) = _
  rw [View.set_slice_whole]
  exact rect_rows (s := S4096x2048) 0 _ _ _ (fun b hb => by fin_cases b; · exact absurd rfl hb
                                                            · exact ⟨rfl, rfl⟩)
theorem oset (d : Dev nD) (p : Fin 4) : (oM d p).view.set = rows (s := S16384x4096) 0 (4096 * d.val + 1024 * p.val) 1024 := by
  show (((View.whole main_v1).slice _).set) = _
  rw [View.set_slice_whole]
  exact rect_rows (s := S16384x4096) 0 _ _ _ (fun b hb => by fin_cases b; · exact absurd rfl hb
                                                             · exact ⟨rfl, rfl⟩)
theorem sset (s : Fin 2) : (sM s).view.set = rows (s := S2x512x2048) 0 s.val 1 := by
  show ((((View.whole cc0_scratch1).slice _).reshape _ _).set) = _
  rw [View.set_reshape, View.set_slice_whole]
  exact rect_rows (s := S2x512x2048) 0 _ _ _ (fun b hb => by fin_cases b; · exact absurd rfl hb
                                                             · exact ⟨rfl, rfl⟩
                                                             · exact ⟨rfl, rfl⟩)
/-- The elements tile `t` of the product buffer occupies. -/
theorem tset (t : Fin 8) : (cW.access (Rect.unit (s := S4096x4096) ![512 * t.val, 0] S512x4096.size (inbT t))).set
    = rows (s := S4096x4096) 0 (512 * t.val) 512 := by
  show (((View.whole cc0_scratch0).slice _).set) = _
  rw [View.set_slice_whole]
  exact rect_rows (s := S4096x4096) 0 _ _ _ (fun b hb => by fin_cases b; · exact absurd rfl hb
                                                            · exact ⟨rfl, rfl⟩)

/-! ## Contents -/

variable (m : (ℓ : Loc nD τ sig) → Buf (Elt F) ℓ)

/-- The index of a two-axis shape with the given coordinates. -/
abbrev ix2 {a b : ℕ} (i : Fin a) (j : Fin b) : (⟨2, ![a, b]⟩ : Shape).Idx := fun x => match x with | 0 => i | 1 => j

/-- Tile `t` of device `c`'s block of `A`. -/
def AT (c : Dev nD) (t : Fin 8) : FVec F S512x2048 .bf16 := (aM t).view.read (Elt F) (m ((c : Thread nD τ).loc main_arg0))

/-- `B` as device `c`'s staging buffer holds it. -/
def BV (c : Dev nD) : (cc0_stg0_0 : Ref sig .tc).ty.Contents (Elt F) :=
  (win0_0.blk (0 : Fin 1)).view.read (Elt F) (m ((c : Thread nD τ).loc main_arg1))

/-- The product of tile `t` of device `c`'s block with `B`. -/
def CT (c : Dev nD) (t : Fin 8) : FVec F S512x4096 .bf16 := k0_pay4 (AT m c t) (BV m c)

/-- What device `c`'s product buffer holds once every tile is stored. -/
def CF (c : Dev nD) : S4096x4096.Idx → Elt F .bf16 := fun i =>
  CT m c ⟨(i 0 : ℕ) / 512, Nat.div_lt_of_lt_mul (i 0).isLt⟩ (ix2 (a := 512) (b := 4096) ⟨(i 0 : ℕ) % 512, Nat.mod_lt _ (by decide)⟩ (i 1))

/-- What every device's result holds at the end: device `d`'s product in rows `[4096 d, 4096 d + 4096)`. -/
def OF : S16384x4096.Idx → Elt F .bf16 := fun i =>
  CF m ⟨(i 0 : ℕ) / 4096, Nat.div_lt_of_lt_mul (i 0).isLt⟩ (ix2 (a := 4096) (b := 4096) ⟨(i 0 : ℕ) % 4096, Nat.mod_lt _ (by decide)⟩ (i 1))

end Cert.KernelIdeal.Ring
-- ==== Proof.KernelIdeal.Sched.lean ====
/-
# The protocol: cells, payloads, dues and levels

Every device has one barrier cell, twelve send cells and twelve receive cells. The barrier's two signals hand
each device the rows of its neighbours' results it will write; a receive cell hands over the rows that
arrived, a send cell gives the sent piece back.
-/
module

public import proofs.«01_k».proof.Proof.KernelIdeal.Base

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores -/

/-- The runtime's barrier semaphore. -/
abbrev barS : Sem sig := (SemArray.scalar (sig.barrier 0 rfl) : Sems sig S_).sem
/-- The DMA semaphore of number `n`. -/
abbrev dsem (n : ℕ) (h : n < 31) : DmaSem sig := ⟨n, h⟩

/-- Device `c`'s barrier cell. -/
abbrev barCell (c : Dev nD) : GSem nD τ sig := ((c : Thread nD τ), .reg barS)
/-- Device `c`'s transfer cell `n`: its send cells for `n < 12`, its receive cells for `12 ≤ n < 24`. -/
abbrev xCell (c : Dev nD) (n : ℕ) (h : n < 24) : GSem nD τ sig := ((c : Thread nD τ), .dma (dsem (1 + n) (by omega)))

/-- The twenty-five cells of a device under the ring's rounds: the barrier's, the twelve send cells, the twelve receive cells. -/
def csem (n : Fin 25) : SemLoc sig := if h : n.val = 0 then .reg barS else .dma (dsem n.val (by omega))
def kcell (ck : Dev nD × Fin 25) : GSem nD τ sig := ((ck.1 : Thread nD τ), csem ck.2)

theorem kcell_bar (c : Dev nD) : kcell (c, 0) = barCell c := rfl
theorem kcell_x (c : Dev nD) (n : ℕ) (h : n < 24) : kcell (c, ⟨1 + n, by omega⟩) = xCell c n h := by
  unfold kcell csem xCell
  rw [dif_neg (show ¬ (1 + n = 0) by omega)]

/-- The credit of one piece of 1024 rows: what a transfer of it adds to a semaphore. -/
abbrev NC : ℕ := (oM 0 0).view.dmaCredit
theorem NC_pos : 0 < NC := View.dmaCredit_pos _ (by decide)
theorem credit_o (d : Dev nD) (p : Fin 4) : (oM d p).view.dmaCredit = NC := rfl
theorem credit_c (p : Fin 4) : (cM p).view.dmaCredit = NC := rfl

/-! ## What the pieces are held at -/

/-- Piece `p` of device `d`'s rows, of the result on device `c`, holding `f`. -/
def oPts (c d : Dev nD) (p : ℕ) (f : Buf (Elt F) ((c : Thread nD τ).loc main_v1)) : sProp 𝕄 :=
  (c : Thread nD τ).loc main_v1 ↦[rows (s := S16384x4096) 0 (4096 * d.val + 1024 * p) 1024]{fullShare} f
/-- Piece `p` of the product buffer of device `c`, held at share `q` with the product's contents. -/
def cPts (c : Dev nD) (p : ℕ) (q : PosShare TreeShare) : sProp 𝕄 :=
  (c : Thread nD τ).loc cc0_scratch0 ↦[rows (s := S4096x4096) 0 (1024 * p) 1024]{q} CF m c

instance oPts_storable (c d : Dev nD) (p : ℕ) (f) : BI.Storable (upEmb : UEmb _ 𝕄) (oPts (F := F) c d p f) := by unfold oPts; infer_instance
instance cPts_storable (c : Dev nD) (p : ℕ) (q) : BI.Storable (upEmb : UEmb _ 𝕄) (cPts (F := F) m c p q) := by unfold cPts; infer_instance

/-! ## Where the sends go -/

/-- The device send `k` of device `c` goes to. -/
def sdst (c : Dev nD) (k : ℕ) : Dev nD := if k < 8 then (if k % 2 = 0 then rt c else lf c) else if k < 10 then rt c else lf c
/-- The receive semaphore send `k` raises there. -/
def srcv (k : ℕ) : ℕ := if k < 8 then (if k % 2 = 0 then k / 2 else 4 + k / 2) else k
/-- Whose rows a forwarding send `k ≥ 8` of device `c` carries. -/
def fsrc (c : Dev nD) (k : ℕ) : Dev nD := if k < 10 then lf c else rt c
/-- Whose rows receive `r` of device `c` brings. -/
def rsrc (c : Dev nD) (r : ℕ) : Dev nD := if r < 4 then lf c else if r < 8 then rt c else dg c
/-- The share of the product buffer's piece that an own send `k < 8` holds. -/
def shr (k : ℕ) : PosShare TreeShare := if k % 2 = 0 then fullShare.right.left else fullShare.right.right

theorem srcv_lt {k : ℕ} (h : k < 12) : 12 + srcv k < 24 := by unfold srcv; split <;> [split; skip] <;> omega

/-- What the wait of send cell `k` gives back: the piece that was sent. -/
def sendPay (c : Dev nD) (k : ℕ) : sProp 𝕄 := if k < 8 then cPts m c (k / 2) (shr k) else oPts c (fsrc c k) (k % 4) (OF m)
/-- What the wait of receive cell `r` brings: the piece that arrived. -/
def recvPay (c : Dev nD) (r : ℕ) : sProp 𝕄 := oPts c (rsrc c r) (r % 4) (OF m)
/-- What the wait of transfer cell `n` brings. -/
def xPay (c : Dev nD) (n : ℕ) : sProp 𝕄 := if n < 12 then sendPay m c n else recvPay m c (n - 12)
/-- Some contents of piece `p` of device `d`'s rows of the result on device `e`. -/
def oAny (e d : Dev nD) (p : ℕ) : sProp 𝕄 := iprop(∃ f, oPts (F := F) e d p f)
/-- Rows of the result of device `e`, of any contents: all four pieces of device `d`'s and two, `p` and `p'`, of device `d'`'s. -/
def sixPts (e d d' : Dev nD) (p p' : Fin 4) : sProp 𝕄 :=
  iprop(oAny (F := F) e d (0 : Fin 4) ∗ oAny (F := F) e d (1 : Fin 4) ∗ oAny (F := F) e d (2 : Fin 4) ∗ oAny (F := F) e d (3 : Fin 4)
    ∗ oAny (F := F) e d' p ∗ oAny (F := F) e d' p')
/-- What the signal of the device after `c` brings `c`: the rows there that `c` will write. -/
def barF (c : Dev nD) : sProp 𝕄 := sixPts (rt c) c (lf c) 0 1
/-- What the signal of the device before `c` brings `c`. -/
def barT (c : Dev nD) : sProp 𝕄 := sixPts (lf c) c (rt c) 2 3

instance oAny_storable (e d : Dev nD) (p : ℕ) : BI.Storable (upEmb : UEmb _ 𝕄) (oAny (F := F) e d p) := by unfold oAny; infer_instance
instance sixPts_storable (e d d' : Dev nD) (p p' : Fin 4) : BI.Storable (upEmb : UEmb _ 𝕄) (sixPts (F := F) e d d' p p') := by unfold sixPts; infer_instance
instance xPay_storable (c : Dev nD) (n : ℕ) : BI.Storable (upEmb : UEmb _ 𝕄) (xPay (F := F) m c n) := by
  unfold xPay sendPay recvPay
  split
  · split <;> infer_instance
  · infer_instance

/-! ## The schedule -/

/-- One round, round 0, on every cell: a barrier cell has the duty `false` of the device after it and the duty `true` of the device
    before it, one unit each; a send or receive cell the duty `false` of one piece's credit. -/
def Rd : Rounds.Schedule (GSem nD τ sig) Bool 𝕄 where
  duties g r := if r = 0 ∧ g.1.2 = .tc then (match g.2 with
    | .reg _ => Finset.univ
    | .dma q => if 1 ≤ q.val ∧ q.val < 25 then {false} else ∅) else ∅
  unitless _ := False
  amount g _ _ := match g.2 with
    | .reg _ => 1
    | .dma _ => NC
  payload g _ d := match g.2 with
    | .reg _ => if d then barT g.1.1 else barF g.1.1
    | .dma q => xPay m g.1.1 (q.val - 1)
  amount_pos g _ _ _ := by
    obtain ⟨t, _ | _⟩ := g
    · exact Nat.one_pos
    · exact NC_pos

instance Rd_payload_storable (g : GSem nD τ sig) (r : ℕ) (d : Bool) : BI.Storable (upEmb : UEmb _ 𝕄) ((Rd (F := F) m).payload g r d) := by
  dsimp only [Rd]
  split
  · unfold barT barF; split <;> infer_instance
  · infer_instance

section Sched
variable (c : Dev nD) (n : ℕ) (h : n < 24)

theorem duties_bar : (Rd (F := F) m).duties (barCell c) 0 = Finset.univ := by dsimp only [Rd]; exact if_pos ⟨rfl, rfl⟩
theorem duties_x : (Rd (F := F) m).duties (xCell c n h) 0 = {false} := by
  dsimp only [Rd]; rw [if_pos ⟨rfl, rfl⟩]; exact if_pos ⟨by show 1 ≤ 1 + n; omega, by show 1 + n < 25; omega⟩
theorem duties_later (g : GSem nD τ sig) : ∀ r, 1 ≤ r → (Rd (F := F) m).duties g r = ∅ :=
  fun r hr => by dsimp only [Rd]; rw [if_neg fun h => by omega]
theorem amount_bar (d : Bool) : (Rd (F := F) m).amount (barCell c) 0 d = 1 := rfl
theorem amount_x (d : Bool) : (Rd (F := F) m).amount (xCell c n h) 0 d = NC := rfl
theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_x : (Rd (F := F) m).expect (xCell c n h) 0 = NC := by
  unfold Schedule.expect Schedule.amountOf; rw [duties_x, Finset.sum_singleton, amount_x]
theorem payload_bar_false : (Rd (F := F) m).payload (barCell c) 0 false = barF c := rfl
theorem payload_bar_true : (Rd (F := F) m).payload (barCell c) 0 true = barT c := rfl
theorem payload_x (d : Bool) : (Rd (F := F) m).payload (xCell c n h) 0 d = xPay m c n := by
  dsimp only [Rd]; rw [show 1 + n - 1 = n by omega]

/-- Both payloads of the barrier cell's round. -/
theorem rest_bar : bigSep ((Rd (F := F) m).duties (barCell c) 0 \ ∅) (fun d => (Rd (F := F) m).payload (barCell c) 0 d) = iprop(barF c ∗ barT c) := by
  rw [Finset.sdiff_empty, duties_bar, bigSep_univ_eq_bigSepL [false, true] (by decide) (by decide), bigSepL_cons_cons, bigSepL_singleton,
    payload_bar_false, payload_bar_true]
  rfl
theorem rest_x : bigSep ((Rd (F := F) m).duties (xCell c n h) 0 \ ∅) (fun d => (Rd (F := F) m).payload (xCell c n h) 0 d) = xPay m c n := by
  rw [Finset.sdiff_empty, duties_x, bigSep_singleton, payload_x]
end Sched

/-! ## What a device owes, and the levels -/

/-- The cell device `c`'s due `j` is owed to, in the order the dues are paid: the two barrier signals, then the twelve sends. -/
def due (c : Dev nD) (j : ℕ) (h : j < 14) : GSem nD τ sig :=
  if j = 0 then barCell (lf c) else if j = 1 then barCell (rt c) else xCell (sdst c (j - 2)) (12 + srcv (j - 2)) (srcv_lt (by omega))
def damt (j : ℕ) : ℕ := if j < 2 then 1 else NC
/-- What device `c` still owes once its first `k` dues are paid. -/
def Ow (c : Dev nD) (k : ℕ) : CellTallies nD τ sig Unit :=
  ∑ j ∈ (Finset.univ : Finset (Fin 14)).filter (fun j => k ≤ j.val), tallyAt (due c j.val j.isLt) () (damt j.val)

theorem Ow_peel (c : Dev nD) (k : ℕ) (h : k < 14) : Ow c k = Ow c (k + 1) + tallyAt (due c k h) () (damt k) := by
  unfold Ow
  have hs : (Finset.univ : Finset (Fin 14)).filter (fun j => k ≤ j.val)
      = insert (⟨k, h⟩ : Fin 14) ((Finset.univ : Finset (Fin 14)).filter (fun j => k + 1 ≤ j.val)) := by
    ext j
    rw [Finset.mem_insert, Finset.mem_filter, Finset.mem_filter, Fin.ext_iff]
    simp only [Finset.mem_univ, true_and]
    omega
  rw [hs, Finset.sum_insert (by rw [Finset.mem_filter]; intro h; have := h.2; simp only at this; omega), add_comm]
theorem Ow_end (c : Dev nD) : Ow c 14 = 0 := by
  unfold Ow
  rw [Finset.filter_false_of_mem (fun j _ => by omega), Finset.sum_empty]

theorem Ow_pos {c : Dev nD} {k : ℕ} {g : GSem nD τ sig} {u : Unit} (h : 0 < Ow c k g u) : ∃ j : Fin 14, k ≤ j.val ∧ g = due c j.val j.isLt := by
  by_contra hn
  refine absurd h (Nat.not_lt.2 (Nat.le_of_eq ?_))
  unfold Ow
  rw [Finset.sum_apply, Finsupp.finset_sum_apply]
  refine Finset.sum_eq_zero fun j hj => ?_
  rw [tallyAt_apply]
  exact if_neg fun h' => hn ⟨j, (Finset.mem_filter.mp hj).2, h'.1⟩

def L (g : GSem nD τ sig) : Finset Unit := if g.1.2 = .tc then {()} else ∅
/-- The barrier cells at 1, the first eight receive cells at 2, the last four at 3, every other cell at 0. -/
def lv (g : GSem nD τ sig) (_ : Unit) : ℕ := match g.2 with
  | .reg _ => 1
  | .dma q => if q.val < 13 then 0 else if q.val < 21 then 2 else if q.val < 25 then 3 else 0

theorem L_of_ne (g : GSem nD τ sig) (h : g.1.2 ≠ .tc) : L g = ∅ := if_neg h
theorem L_tc (c : Dev nD) (sm : SemLoc sig) : L ((c : Thread nD τ), sm) = {()} := if_pos rfl
theorem L_due (c : Dev nD) (j : ℕ) (h : j < 14) : L (due c j h) = {()} := by
  unfold due; split
  · exact L_tc _ _
  · split <;> exact L_tc _ _

/-- The level of due `j`. -/
def dlev (j : ℕ) : ℕ := if j < 2 then 1 else if j < 10 then 2 else 3
theorem lv_due (c : Dev nD) (j : ℕ) (h : j < 14) : lv (due c j h) () = dlev j := by
  have hk : ∀ k, k < 12 → (if 1 + (12 + srcv k) < 13 then 0 else if 1 + (12 + srcv k) < 21 then 2 else if 1 + (12 + srcv k) < 25 then 3 else 0) = dlev (k + 2) := by decide
  unfold due
  split
  · next h0 => subst h0; rfl
  · split
    · next h1 => subst h1; rfl
    · have := hk (j - 2) (by omega)
      rw [show j - 2 + 2 = j by omega] at this
      exact this

/-- A core may wait on a cell of level at most `n` once every due it still owes has a level above `n`. -/
theorem mayWait (c : Dev nD) (sm : SemLoc sig) (k n : ℕ) (h1 : lv ((c : Thread nD τ), sm) () ≤ n) (h2 : ∀ j : Fin 14, k ≤ j.val → n < dlev j.val) :
    (levAts L lv : sProp 𝕄) ⊢ MayWait (c : Thread nD τ) sm () (Ow c k) :=
  MayOwe.of_cut (L := L) (lev := lv) n (fun p hp => by rw [Finset.mem_singleton.mp hp, L_tc]; exact Finset.mem_singleton_self _)
    (fun g u hg => by obtain ⟨j, -, rfl⟩ := Ow_pos hg; rw [L_due]; exact Finset.mem_singleton_self _)
    (fun p hp => by rw [Finset.mem_singleton.mp hp]; exact h1)
    (fun g u hg => by obtain ⟨j, hj, rfl⟩ := Ow_pos hg; rw [lv_due]; exact h2 j hj)

end Cert.KernelIdeal.Ring
-- ==== Proof.KernelIdeal.Pieces.lean ====
/-
# The pieces after a copy or a store

What a transfer of a piece, a fetch of a tile and the store of a tile leave, read off the contents
`AT`, `CT`, `CF` and `OF`; and the pieces split and joined.
-/
module

public import proofs.«01_k».proof.Proof.KernelIdeal.Sched

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The contents, index by index -/

theorem CF_of (c : Dev nD) (i : S4096x4096.Idx) (t : Fin 8) (j : S512x4096.Idx) (h0 : (i 0 : ℕ) = 512 * t.val + (j 0 : ℕ)) (h1 : (i 1 : ℕ) = (j 1 : ℕ)) :
    CF m c i = CT m c t j := by
  have hj : (j 0 : ℕ) < 512 := (j 0).isLt
  have ht : (⟨(i 0 : ℕ) / 512, Nat.div_lt_of_lt_mul (i 0).isLt⟩ : Fin 8) = t := Fin.ext (by show (i 0 : ℕ) / 512 = t.val; omega)
  have hx : (ix2 (a := 512) (b := 4096) ⟨(i 0 : ℕ) % 512, Nat.mod_lt _ (by decide)⟩ (i 1)) = j := by
    funext a
    match a with
    | ⟨0, _⟩ => exact Fin.ext (by show (i 0 : ℕ) % 512 = (j 0 : ℕ); omega)
    | ⟨1, _⟩ => exact Fin.ext h1
  unfold CF
  exact congr (congrArg (CT m c) ht) hx

theorem OF_of (i : S16384x4096.Idx) (d : Dev nD) (j : S4096x4096.Idx) (h0 : (i 0 : ℕ) = 4096 * d.val + (j 0 : ℕ)) (h1 : (i 1 : ℕ) = (j 1 : ℕ)) :
    OF m i = CF m d j := by
  have hj : (j 0 : ℕ) < 4096 := (j 0).isLt
  have ht : (⟨(i 0 : ℕ) / 4096, Nat.div_lt_of_lt_mul (i 0).isLt⟩ : Dev nD) = d := Fin.ext (by show (i 0 : ℕ) / 4096 = d.val; omega)
  have hx : (ix2 (a := 4096) (b := 4096) ⟨(i 0 : ℕ) % 4096, Nat.mod_lt _ (by decide)⟩ (i 1)) = j := by
    funext a
    match a with
    | ⟨0, _⟩ => exact Fin.ext (by show (i 0 : ℕ) % 4096 = (j 0 : ℕ); omega)
    | ⟨1, _⟩ => exact Fin.ext h1
  unfold OF
  exact congr (congrArg (CF m) ht) hx

/-- Where an index of piece `p` of device `d`'s rows lies in the result. -/
theorem oemb (d : Dev nD) (p : Fin 4) (j : S1024x4096.Idx) (a : Fin 2) :
    (((oM d p).view.emb j a : Fin _) : ℕ) = (![4096 * d.val + 1024 * p.val, 0] : Fin 2 → ℕ) a + (j a : ℕ) :=
  ValueKit.view_emb_slice_whole_unit_val main_v1 ![4096 * d.val + 1024 * p.val, 0] S1024x4096.size (inbO d p) j a
theorem cemb (p : Fin 4) (j : S1024x4096.Idx) (a : Fin 2) :
    (((cM p).view.emb j a : Fin _) : ℕ) = (![1024 * p.val, 0] : Fin 2 → ℕ) a + (j a : ℕ) :=
  ValueKit.view_emb_slice_whole_unit_val cc0_scratch0 ![1024 * p.val, 0] S1024x4096.size (inbC p) j a

theorem CF_emb (c : Dev nD) (p : Fin 4) (j : S1024x4096.Idx) : OF m ((oM c p).view.emb j) = CF m c ((cM p).view.emb j) := by
  apply OF_of
  · have h1 := oemb c p j 0
    have h2 := cemb p j 0
    rw [h1, h2]; show 4096 * c.val + 1024 * p.val + _ = 4096 * c.val + (1024 * p.val + _); omega
  · have h1 := oemb c p j 1
    have h2 := cemb p j 1
    rw [h1, h2]; rfl

/-! ## What a transfer leaves -/

theorem oPts_view (c d : Dev nD) (p : Fin 4) (f : Buf (Elt F) ((c : Thread nD τ).loc main_v1)) :
    (((oM d p).view.loc (c : Thread nD τ) ↦[(oM d p).view.set]{fullShare} f) : sProp 𝕄) = oPts c d p.val f := by
  unfold oPts; rw [oset]
theorem cPts_view (c : Dev nD) (p : Fin 4) (q : PosShare TreeShare) :
    (((cM p).view.loc (c : Thread nD τ) ↦[(cM p).view.set]{q} CF m c) : sProp 𝕄) = cPts m c p.val q := by
  unfold cPts; rw [cset]

/-- Writing into a piece what the result is to hold there leaves the piece at the result. -/
theorem write_piece (c d : Dev nD) (p : Fin 4) (f : Buf (Elt F) ((c : Thread nD τ).loc main_v1)) (w : S1024x4096.Idx → Elt F .bf16)
    (hw : ∀ j, w j = OF m ((oM d p).view.emb j)) :
    (((oM d p).view.loc (c : Thread nD τ) ↦[(oM d p).view.set]{fullShare} (oM d p).view.write (Elt F) f w Finset.univ) : sProp 𝕄)
      = oPts c d p.val (OF m) := by
  rw [← oPts_view]
  refine pointsTo_congr fun i hi => ?_
  obtain ⟨j, -, rfl⟩ := Finset.mem_map.mp hi
  rw [View.write_emb_of_mem _ _ (Finset.mem_univ _)]
  exact hw j

/-- The product's piece written into the sender's rows of the result. -/
theorem write_own (c e : Dev nD) (p : Fin 4) (f : Buf (Elt F) ((e : Thread nD τ).loc main_v1)) :
    (((oM c p).view.loc (e : Thread nD τ) ↦[(oM c p).view.set]{fullShare} (oM c p).view.write (Elt F) f ((cM p).view.read (Elt F) (CF m c)) Finset.univ) : sProp 𝕄)
      = oPts e c p.val (OF m) := write_piece m e c p f _ fun j => (CF_emb m c p j).symm
/-- A piece of the result written into the same rows of another device's. -/
theorem write_fwd (d e : Dev nD) (p : Fin 4) (f : Buf (Elt F) ((e : Thread nD τ).loc main_v1)) :
    (((oM d p).view.loc (e : Thread nD τ) ↦[(oM d p).view.set]{fullShare} (oM d p).view.write (Elt F) f ((oM d p).view.read (Elt F) (OF m)) Finset.univ) : sProp 𝕄)
      = oPts e d p.val (OF m) := write_piece m e d p f _ fun _ => rfl

/-! ## The tiles -/

/-- Tile `t` of device `c`'s block of `A`. -/
def aPts (c : Dev nD) (t : ℕ) : sProp 𝕄 :=
  (c : Thread nD τ).loc main_arg0 ↦[rows (s := S4096x2048) 0 (512 * t) 512]{fullShare} m ((c : Thread nD τ).loc main_arg0)
/-- Tile `t` of the product buffer, holding `f`. -/
def tPts (c : Dev nD) (t : ℕ) (f : Buf (Elt F) ((c : Thread nD τ).loc cc0_scratch0)) : sProp 𝕄 :=
  (c : Thread nD τ).loc cc0_scratch0 ↦[rows (s := S4096x4096) 0 (512 * t) 512]{fullShare} f
/-- Slot `s` of the tile buffer, holding `f`. -/
def sPts (c : Dev nD) (s : ℕ) (f : Buf (Elt F) ((c : Thread nD τ).loc cc0_scratch1)) : sProp 𝕄 :=
  (c : Thread nD τ).loc cc0_scratch1 ↦[rows (s := S2x512x2048) 0 s 1]{fullShare} f
/-- Slot `s` holding tile `t` of `A`. -/
def sHas (c : Dev nD) (s : Fin 2) (t : Fin 8) : sProp 𝕄 :=
  iprop(∃ f : Buf (Elt F) ((c : Thread nD τ).loc cc0_scratch1), ⌜(sM s).view.read (Elt F) f = AT m c t⌝ ∗ sPts c s.val f)
/-- Slot `s` with some contents. -/
def sAny (c : Dev nD) (s : ℕ) : sProp 𝕄 := iprop(∃ f, sPts (F := F) c s f)
/-- Tile `t` of the product buffer with some contents. -/
def tAny (c : Dev nD) (t : ℕ) : sProp 𝕄 := iprop(∃ f, tPts (F := F) c t f)
/-- `B` in its staging buffer. -/
def bPts (c : Dev nD) : sProp 𝕄 := ((c : Thread nD τ).loc cc0_stg0_0) ↦{fullShare} BV m c

theorem aPts_view (c : Dev nD) (t : Fin 8) :
    (((aM t).view.loc (c : Thread nD τ) ↦[(aM t).view.set]{fullShare} m ((c : Thread nD τ).loc main_arg0)) : sProp 𝕄) = aPts m c t.val := by
  unfold aPts; rw [aset]
theorem sPts_view (c : Dev nD) (s : Fin 2) (f : Buf (Elt F) ((c : Thread nD τ).loc cc0_scratch1)) :
    (((sM s).view.loc (c : Thread nD τ) ↦[(sM s).view.set]{fullShare} f) : sProp 𝕄) = sPts c s.val f := by
  unfold sPts; rw [sset]

/-- A fetched slot holds its tile. -/
theorem write_slot (c : Dev nD) (s : Fin 2) (t : Fin 8) (f : Buf (Elt F) ((c : Thread nD τ).loc cc0_scratch1)) :
    (((sM s).view.loc (c : Thread nD τ) ↦[(sM s).view.set]{fullShare}
        (sM s).view.write (Elt F) f ((aM t).view.read (Elt F) (m ((c : Thread nD τ).loc main_arg0))) Finset.univ) : sProp 𝕄) ⊢ sHas m c s t := by
  rw [sPts_view]
  unfold sHas
  iintro H
  iexists _
  isplitr
  swap; · iexact H
  ipureintro
  exact View.read_write_univ _ _

/-- Storing a tile's product leaves the tile at the product buffer's final contents. -/
theorem write_tile (c : Dev nD) (t : Fin 8) (f : Buf (Elt F) ((c : Thread nD τ).loc cc0_scratch0)) :
    (((cW.access (Rect.unit (s := S4096x4096) ![512 * t.val, 0] S512x4096.size (inbT t))).loc (c : Thread nD τ)
        ↦[rows (s := S4096x4096) 0 (512 * t.val) 512]{fullShare}
        (cW.access (Rect.unit (s := S4096x4096) ![512 * t.val, 0] S512x4096.size (inbT t))).write (Elt F) f (CT m c t) Finset.univ) : sProp 𝕄)
      = tPts c t.val (CF m c) := by
  unfold tPts
  refine pointsTo_congr fun i hi => ?_
  rw [← tset] at hi
  obtain ⟨j, -, rfl⟩ := Finset.mem_map.mp hi
  rw [View.write_emb_of_mem _ _ (Finset.mem_univ _)]
  have h := fun a => ValueKit.view_emb_slice_whole_unit_val cc0_scratch0 ![512 * t.val, 0] S512x4096.size (inbT t) j a
  exact (CF_of m c _ t j (h 0) ((h 1).trans (Nat.zero_add _))).symm

/-! ## Splitting and joining -/

/-- Two tiles are a piece, held in three shares: one for the local copy, one for each send. -/
theorem piece_split (c : Dev nD) (t t' : Fin 8) (p : Fin 4) (k k' : Fin 12) (ht : t.val = 2 * p.val) (ht' : t'.val = 2 * p.val + 1)
    (hk : k.val = 2 * p.val) (hk' : k'.val = 2 * p.val + 1) :
    iprop(tPts c t.val (CF m c) ∗ tPts c t'.val (CF m c))
      ⊢ (iprop(cPts m c p.val fullShare.left ∗ cPts m c p.val (shr k.val) ∗ cPts m c p.val (shr k'.val)) : sProp 𝕄) := by
  have hu := rows_union (s := S4096x4096) 0 (1024 * p.val) 512 512
  have h2 : (512 * (2 * p.val) : ℕ) = 1024 * p.val := by omega
  have h3 : (512 * (2 * p.val + 1) : ℕ) = 1024 * p.val + 512 := by omega
  have hd : Disjoint (rows (s := S4096x4096) 0 (1024 * p.val) 512) (rows 0 (1024 * p.val + 512) 512) := rows_disjoint (Or.inl (Nat.le_refl _))
  have e1 : shr (2 * p.val) = fullShare.right.left := by unfold shr; rw [if_pos (by omega)]
  have e2 : shr (2 * p.val + 1) = fullShare.right.right := by unfold shr; rw [if_neg (by omega)]
  unfold tPts cPts
  rw [ht, ht', hk, hk', e1, e2, h2, h3]
  refine (pointsTo_union hd).2.trans ?_
  rw [hu]
  refine (pointsTo_share (PosShare.mem_left_op_right fullShare)).1.trans (sep_mono_right ?_)
  exact (pointsTo_share (PosShare.mem_left_op_right fullShare.right)).1

theorem piece_join (c : Dev nD) (p : Fin 4) (k k' : Fin 12) (hk : k.val = 2 * p.val) (hk' : k'.val = 2 * p.val + 1) :
    iprop(cPts m c p.val fullShare.left ∗ cPts m c p.val (shr k.val) ∗ cPts m c p.val (shr k'.val))
      ⊢ (cPts m c p.val fullShare : sProp 𝕄) := by
  have e1 : shr (2 * p.val) = fullShare.right.left := by unfold shr; rw [if_pos (by omega)]
  have e2 : shr (2 * p.val + 1) = fullShare.right.right := by unfold shr; rw [if_neg (by omega)]
  unfold cPts
  rw [hk, hk', e1, e2]
  refine (sep_mono_right (pointsTo_share (PosShare.mem_left_op_right fullShare.right)).2).trans ?_
  exact (pointsTo_share (PosShare.mem_left_op_right fullShare)).2

end Cert.KernelIdeal.Ring
-- ==== Proof.KernelIdeal.Rules.lean ====
/-
# One rule per effect of the body

Each operation of the body, stated at the pieces it moves: fetch of a tile and its wait, the loads, the
store of a product tile, the local copy, the sends, the waits and the barrier.
-/
module

public import proofs.«01_k».proof.Proof.KernelIdeal.Pieces

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The variants the body runs under: none. -/
abbrev 𝒱₀ : Variants := Variants.none

/-- Program `p` on device `c`'s core reaches `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem setOn_whole (b : Ref sig .tc) (M : Finset b.ty.shape.Idx) : (View.whole b : View sig .tc _ _ _).setOn M = M := Finset.map_refl

/-- What every device knows: the twenty-five cells of every device follow the schedule and have reached round 0; the levels. -/
def recs (K : Dev nD × Fin 25 → ℕ) : sProp 𝕄 :=
  iprop((bigSep Finset.univ fun ck => cellInv ER (Rd m) (K ck) (kcell ck)) ∗ (bigSep Finset.univ fun ck => reached ER (kcell ck) 0) ∗ levAts L lv)
instance recs_persistent (K) : BI.Persistent (recs (F := F) m K) := by unfold recs; infer_instance

section Recs
variable (K : Dev nD × Fin 25 → ℕ) (c : Dev nD) (n : ℕ) (h : n < 24)
/-- The name of the invariant of transfer cell `n`. -/
abbrev kx : ℕ := K (c, ⟨1 + n, by omega⟩)
theorem recs_inv (ck : Dev nD × Fin 25) : recs (F := F) m K ⊢ cellInv ER (Rd m) (K ck) (kcell ck) := by
  unfold recs; iintro ⟨H, -, -⟩
  iapply (show (bigSep Finset.univ fun ck => cellInv ER (Rd (F := F) m) (K ck) (kcell ck)) ⊢ cellInv ER (Rd m) (K ck) (kcell ck) from
    bigSep_elim (Finset.mem_univ ck)) $$ H
theorem recs_reached (ck : Dev nD × Fin 25) : recs (F := F) m K ⊢ reached ER (kcell ck) 0 := by
  unfold recs; iintro ⟨-, H, -⟩
  iapply (show (bigSep Finset.univ fun ck => reached ER (kcell ck) 0) ⊢ (reached ER (kcell ck) 0 : sProp 𝕄) from bigSep_elim (Finset.mem_univ ck)) $$ H
theorem recs_lev : recs (F := F) m K ⊢ levAts L lv := by
  unfold recs; iintro ⟨-, -, H⟩; iexact H
theorem inv_bar : recs (F := F) m K ⊢ cellInv ER (Rd m) (K (c, 0)) (barCell c) := recs_inv m K (c, 0)
theorem reached_bar : recs (F := F) m K ⊢ reached ER (barCell c) 0 := recs_reached m K (c, 0)
theorem inv_x : recs (F := F) m K ⊢ cellInv ER (Rd m) (kx K c n h) (xCell c n h) := by rw [← kcell_x]; exact recs_inv m K _
theorem reached_x : recs (F := F) m K ⊢ reached ER (xCell c n h) 0 := by rw [← kcell_x]; exact recs_reached m K _
end Recs

/-- Device `c` owes what is left after its first `k` dues, having waited on some cells. -/
def owesE (c : Dev nD) (k : ℕ) : sProp 𝕄 := iprop(∃ W : Waits sig Unit, owes (c : Thread nD τ) (Ow c k) W)
/-- Transfer cell `n` of device `c` is at round 0 and its credit is held: its wait can be made. -/
def pend (c : Dev nD) (n : Fin 24) : sProp 𝕄 :=
  iprop(atPos ER (xCell c n.val n.isLt) 0 ∅ 0 ∗ cred (tallyAt (xCell c n.val n.isLt) () NC))
/-- What send `k` of device `c` spends: the duties of its send cell and of the receive cell, and the send cell's position. -/
def tok (c : Dev nD) (k : Fin 12) : sProp 𝕄 :=
  iprop(dutyTok ER (xCell c k.val (by omega)) 0 false ∗ dutyTok ER (xCell (sdst c k.val) (12 + srcv k.val) (srcv_lt k.isLt)) 0 false
    ∗ atPos ER (xCell c k.val (by omega)) 0 ∅ 0)
/-- DMA semaphore `n` of device `c` at zero. -/
def zero (c : Dev nD) (n : ℕ) (h : n < 31) : sProp 𝕄 := semVal ((c : Thread nD τ), .dma (dsem n h)) 0
/-- The semaphores of slot `s`'s fetches, of local copy `p` and of transfer cell `n`, at zero. -/
abbrev zS (c : Dev nD) (s : Fin 2) : sProp 𝕄 := zero c (29 + s.val) (by omega)
abbrev zC (c : Dev nD) (p : Fin 4) : sProp 𝕄 := zero c (25 + p.val) (by omega)
abbrev zX (c : Dev nD) (n : Fin 24) : sProp 𝕄 := zero c (1 + n.val) (by omega)

variable (K : Dev nD × Fin 25 → ℕ) (c : Dev nD)

/-! ## Fetching the tiles of `A` -/

abbrev NF : ℕ := (sM 0).view.dmaCredit
/-- Tile `t` is on its way to slot `s`. -/
def fetching (s : Fin 2) (t : Fin 8) : sProp 𝕄 :=
  Transfers.Flight EC (c : Thread nD τ) (.dma (dsem (29 + s.val) (by omega))) () NF iprop(sHas m c s t ∗ aPts m c t.val)

theorem wp_fetch {α : Type} {Q : α → sProp 𝕄} (s : Fin 2) (t : Fin 8) {src : Memref sig .tc .hbm S512x2048 .bf16} {dst : Memref sig .tc .vmem S512x2048 .bf16} {sm : DmaSem sig}
    (h1 : src = aM t) (h2 : dst = sM s) (h3 : sm = dsem (29 + s.val) (by omega))
    {hsrc : src.view.WordExact} {hdst : dst.view.WordExact} {hsem : DmaTarget.Typed .hbm (.dma sm) (.here dst : DmaTarget nD τ sig (.tc : Proc τ) .vmem S512x2048 .bf16)}
    {k : PUnit → Prog (TpuEff nD τ sig (Elt F) Λ₀ .tc) α} :
    iprop(aPts m c t.val ∗ sAny c s.val ∗ zS c s)
      ⊢ iprop((fetching m c s t -∗ WP c (k ⟨⟩) Q) -∗ WP c (.op (.enqueueDma src (.here dst) (.dma sm) hsrc hdst hsem) k) Q) := by
  subst h1 h2 h3
  unfold sAny
  iintro ⟨Ha, ⟨%f, Hs⟩, Hz⟩ Hk
  ihave Ha := (Entails.of_eq (aPts_view m c t).symm) $$ Ha
  ihave Hs := (Entails.of_eq (sPts_view c s f).symm) $$ Hs
  unfold zS zero
  iapply (Transfers.wp_dmaLocal EC 𝒱₀ (c : Thread nD τ) none (src := aM t) (dst := sM s)
    (hsrc := hsrc) (hdst := hdst) (hsem := hsem) (fs := m ((c : Thread nD τ).loc main_arg0)) (fd := f) (q := fullShare) () NF rfl (View.dmaCredit_pos _ (by decide)) subset_rfl) $$ [Ha Hs Hz]
  · isplitl [Ha]; · iexact Ha
    isplitl [Hs]; · iexact Hs
    iexact Hz
  iintro HF
  iapply Hk
  unfold fetching
  iapply (Transfers.Flight_mono EC (c : Thread nD τ) (BI.sep_mono (write_slot m c s t f) (Entails.of_eq (aPts_view m c t)))) $$ HF

theorem wp_fetchWait {α : Type} {Q : α → sProp 𝕄} (s : Fin 2) (t : Fin 8) (n : ℕ) {src : Memref sig .tc .hbm S512x2048 .bf16} {dst : Memref sig .tc .vmem S512x2048 .bf16} {sm : DmaSem sig}
    (h2 : dst = sM s) (h3 : sm = dsem (29 + s.val) (by omega))
    {hsrc : src.view.WordExact} {hdst : dst.view.WordExact}
    {k : PUnit → Prog (TpuEff nD τ sig (Elt F) Λ₀ .tc) α} :
    iprop(recs m K ∗ fetching m c s t ∗ owesE c n)
      ⊢ iprop(((sHas m c s t ∗ aPts m c t.val ∗ zS c s ∗ owesE c n) -∗ WP c (k ⟨⟩) Q)
          -∗ WP c (.op (.waitDma2 sm src dst hsrc hdst) k) Q) := by
  subst h2 h3
  unfold owesE fetching
  have h31 : 29 + s.val < 31 := by omega
  have hlv : lv ((c : Thread nD τ), .dma (dsem (29 + s.val) h31)) () ≤ 0 := by fin_cases s <;> exact Nat.le_refl _
  have hdl : ∀ j : Fin 14, n ≤ j.val → 0 < dlev j.val := fun j _ => by unfold dlev; split <;> [skip; split] <;> decide
  iintro ⟨#HR, HF, ⟨%W, HO⟩⟩ Hk
  iapply (Transfers.wp_waitLocalO EC 𝒱₀ (c : Thread nD τ) none (srcw := src) (dstw := sM s) (hsrc := hsrc) (hdst := hdst) () (N := NF) rfl (O := Ow c n) (W := W)) $$ [HF HO]
  · isplitl [HF]; · iexact HF
    isplitl [HO]; · iexact HO
    iapply ((recs_lev m K).trans (mayWait c (.dma (dsem (29 + s.val) h31)) n 0 hlv hdl))
    iexact HR
  iintro ⟨⟨Hs, Ha⟩, Hz, HO⟩
  iapply Hk
  isplitl [Hs]; · iexact Hs
  isplitl [Ha]; · iexact Ha
  isplitl [Hz]; · unfold zS zero; iexact Hz
  iexists _; iexact HO

/-! ## The loads and the store -/

theorem wp_loadSlot {α : Type} {Q : α → sProp 𝕄} (s : Fin 2) (t : Fin 8) {off : Fin 3 → ℕ} {inb} (h : off = ![s.val, 0, 0])
    {hl} {k : (S1x512x2048.Idx → Elt F .bf16) → Prog (TpuEff nD τ sig (Elt F) Λ₀ .tc) α} :
    (sHas m c s t)
      ⊢ iprop((∀ v : S1x512x2048.Idx → Elt F .bf16, ⌜k0_pay3 (F := F) v = AT m c t⌝ -∗ sAny c s.val -∗ WP c (k v) Q)
          -∗ WP c (.op (.load tW (Rect.unit (s := S2x512x2048) off S1x512x2048.size inb).toLoadRect hl) k) Q) := by
  subst h
  unfold sHas sAny
  iintro ⟨%f, %hf, Hs⟩ Hk
  ihave Hs := (Entails.of_eq (sPts_view c s f).symm) $$ Hs
  iapply (wp_load 𝒱₀ (c : Thread nD τ) none Set.univ (m := tW) (S := (sM s).view.set) (q := fullShare) (f := f) (by
    rw [sset]
    exact (subset_of_eq (setOn_whole _ _)).trans (subset_of_eq (rect_rows (s := S2x512x2048) 0 ![s.val, 0, 0] S1x512x2048.size (inbS s) (fun b hb => by
      fin_cases b
      · exact absurd rfl hb
      · exact ⟨rfl, rfl⟩
      · exact ⟨rfl, rfl⟩))))) $$ Hs
  iintro Hs
  ihave Hs := (Entails.of_eq (sPts_view c s f)) $$ Hs
  iapply Hk $$ [] [Hs]
  · ipureintro; exact hf
  iexists f; iexact Hs

theorem wp_loadB {α : Type} {Q : α → sProp 𝕄} {inb} {hl} {k : (S2048x4096.Idx → Elt F .bf16) → Prog (TpuEff nD τ sig (Elt F) Λ₀ .tc) α} :
    (bPts m c)
      ⊢ iprop((bPts m c -∗ WP c (k (BV m c)) Q)
          -∗ WP c (.op (.load bW (Rect.unit (s := S2048x4096) ![0, 0] S2048x4096.size inb).toLoadRect hl) k) Q) := by
  unfold bPts
  iintro Hb Hk
  iapply (wp_load 𝒱₀ (c : Thread nD τ) none Set.univ (m := bW) (Finset.subset_univ _)) $$ Hb
  iintro Hb
  rw [show bW.view.readAt (Elt F) (Rect.unit (s := S2048x4096) ![0, 0] S2048x4096.size inb).toLoadRect (BV m c) = BV m c from
    Memref.readAt_unit_zero (Elt F) cc0_stg0_0 (by funext a; fin_cases a <;> rfl) inb (BV m c)]
  iapply Hk $$ Hb

theorem tset_sub (t : Fin 8) {off : Fin 2 → ℕ} {inb} (h : off = ![512 * t.val, 0]) :
    cW.view.setOn (Rect.unit (s := S4096x4096) off S512x4096.size inb).set ⊆ rows (s := S4096x4096) 0 (512 * t.val) 512 := by
  subst h
  exact (subset_of_eq (setOn_whole _ _)).trans (subset_of_eq (rect_rows (s := S4096x4096) 0 ![512 * t.val, 0] S512x4096.size (inbT t) (fun b hb => by
      fin_cases b
      · exact absurd rfl hb
      · exact ⟨rfl, rfl⟩)))

theorem wp_loadC {α : Type} {Q : α → sProp 𝕄} (t : Fin 8) {off : Fin 2 → ℕ} {inb} (h : off = ![512 * t.val, 0]) {hl}
    {k : (S512x4096.Idx → Elt F .bf16) → Prog (TpuEff nD τ sig (Elt F) Λ₀ .tc) α} :
    (tAny c t.val)
      ⊢ iprop((∀ v : S512x4096.Idx → Elt F .bf16, tAny c t.val -∗ WP c (k v) Q)
          -∗ WP c (.op (.load cW (Rect.unit (s := S4096x4096) off S512x4096.size inb).toLoadRect hl) k) Q) := by
  unfold tAny tPts
  iintro ⟨%f, Ht⟩ Hk
  iapply (wp_load 𝒱₀ (c : Thread nD τ) none Set.univ (m := cW) (tset_sub t h)) $$ Ht
  iintro Ht
  iapply Hk $$ [Ht]
  iexists f; iexact Ht

theorem wp_storeC {α : Type} {Q : α → sProp 𝕄} (t : Fin 8) {off : Fin 2 → ℕ} {inb} (h : off = ![512 * t.val, 0]) {w : S512x4096.Idx → Elt F .bf16} (hw : w = CT m c t) {hx hm}
    {k : PUnit → Prog (TpuEff nD τ sig (Elt F) Λ₀ .tc) α} :
    (tAny c t.val)
      ⊢ iprop((tPts c t.val (CF m c) -∗ WP c (k ⟨⟩) Q)
          -∗ WP c (.op (.store cW (Rect.unit (s := S4096x4096) off S512x4096.size inb) w Finset.univ hx hm) k) Q) := by
  subst h hw
  unfold tAny
  iintro ⟨%f, Ht⟩ Hk
  unfold tPts
  iapply (wp_store 𝒱₀ (c : Thread nD τ) none Set.univ (m := cW) (r := Rect.unit (s := S4096x4096) ![512 * t.val, 0] S512x4096.size (inbT t)) (Mk := Finset.univ)
    (S := rows (s := S4096x4096) 0 (512 * t.val) 512) (by rw [View.setOn_univ, tset])) $$ Ht
  iintro Ht
  ihave Ht := (Entails.of_eq (write_tile m c t f)) $$ Ht
  unfold tPts
  iapply Hk $$ Ht

/-- The product of a loaded slot with `B` is its tile's. -/
theorem ct_of (t : Fin 8) {v : S1x512x2048.Idx → Elt F .bf16} (hv : k0_pay3 (F := F) v = AT m c t) : k0_pay4 (k0_pay3 (F := F) v) (BV m c) = CT m c t := by
  rw [hv]; rfl

/-! ## The local copies -/

/-- Piece `p` of the product is on its way to the device's own rows of the result. -/
def copying (p : Fin 4) : sProp 𝕄 :=
  Transfers.Flight EC (c : Thread nD τ) (.dma (dsem (25 + p.val) (by omega))) () NC iprop(oPts c c p.val (OF m) ∗ cPts m c p.val fullShare.left)

theorem wp_copy {α : Type} {Q : α → sProp 𝕄} (p : Fin 4) {src : Memref sig .tc .vmem S1024x4096 .bf16} {dst : Memref sig .tc .hbm S1024x4096 .bf16} {sm : DmaSem sig}
    (h1 : src = cM p) (h2 : dst = oM c p) (h3 : sm = dsem (25 + p.val) (by omega))
    {hsrc : src.view.WordExact} {hdst : dst.view.WordExact} {hsem : DmaTarget.Typed .vmem (.dma sm) (.here dst : DmaTarget nD τ sig (.tc : Proc τ) .hbm S1024x4096 .bf16)}
    {k : PUnit → Prog (TpuEff nD τ sig (Elt F) Λ₀ .tc) α} :
    iprop(cPts m c p.val fullShare.left ∗ oAny c c p.val ∗ zC c p)
      ⊢ iprop((copying m c p -∗ WP c (k ⟨⟩) Q) -∗ WP c (.op (.enqueueDma src (.here dst) (.dma sm) hsrc hdst hsem) k) Q) := by
  subst h1 h2 h3
  unfold oAny
  iintro ⟨Ha, ⟨%f, Hs⟩, Hz⟩ Hk
  ihave Ha := (Entails.of_eq (cPts_view m c p fullShare.left).symm) $$ Ha
  ihave Hs := (Entails.of_eq (oPts_view c c p f).symm) $$ Hs
  unfold zC zero
  iapply (Transfers.wp_dmaLocal EC 𝒱₀ (c : Thread nD τ) none (src := cM p) (dst := oM c p)
    (hsrc := hsrc) (hdst := hdst) (hsem := hsem) (fs := CF m c) (fd := f) (q := fullShare.left) () NC rfl NC_pos subset_rfl) $$ [Ha Hs Hz]
  · isplitl [Ha]; · iexact Ha
    isplitl [Hs]; · iexact Hs
    iexact Hz
  iintro HF
  iapply Hk
  unfold copying
  iapply (Transfers.Flight_mono EC (c : Thread nD τ) (BI.sep_mono (Entails.of_eq (write_own m c c p f)) (Entails.of_eq (cPts_view m c p fullShare.left)))) $$ HF

theorem wp_copyWait {α : Type} {Q : α → sProp 𝕄} (p : Fin 4) {src : Memref sig .tc .vmem S1024x4096 .bf16} {dst : Memref sig .tc .hbm S1024x4096 .bf16} {sm : DmaSem sig}
    (h2 : dst = oM c p) (h3 : sm = dsem (25 + p.val) (by omega))
    {hsrc : src.view.WordExact} {hdst : dst.view.WordExact}
    {k : PUnit → Prog (TpuEff nD τ sig (Elt F) Λ₀ .tc) α} :
    iprop(copying m c p ∗ owesE c 14)
      ⊢ iprop(((oPts c c p.val (OF m) ∗ cPts m c p.val fullShare.left ∗ zC c p ∗ owesE c 14) -∗ WP c (k ⟨⟩) Q)
          -∗ WP c (.op (.waitDma2 sm src dst hsrc hdst) k) Q) := by
  subst h2 h3
  unfold owesE copying
  rw [Ow_end]
  iintro ⟨HF, ⟨%W, HO⟩⟩ Hk
  iapply (Transfers.wp_waitLocalO EC 𝒱₀ (c : Thread nD τ) none (srcw := src) (dstw := oM c p) (hsrc := hsrc) (hdst := hdst) () (N := NC) (credit_o c p) (O := 0) (W := W)) $$ [HF HO]
  · isplitl [HF]; · iexact HF
    isplitl [HO]; · iexact HO
    rw [MayWait_zero]; iempintro
  iintro ⟨⟨Hs, Ha⟩, Hz, HO⟩
  iapply Hk
  isplitl [Hs]; · iexact Hs
  isplitl [Ha]; · iexact Ha
  isplitl [Hz]; · unfold zC zero; iexact Hz
  iexists _; iexact HO

/-! ## The sends -/

set_option backward.proofsInPublic true in
theorem rsrc_own : ∀ (c : Dev nD) (k : Fin 12), k.val < 8 → rsrc (sdst c k.val) (srcv k.val) = c ∧ srcv k.val % 4 = k.val / 2 := by decide
set_option backward.proofsInPublic true in
theorem rsrc_fwd : ∀ (c : Dev nD) (k : Fin 12), ¬ k.val < 8 → rsrc (sdst c k.val) (srcv k.val) = fsrc c k.val ∧ srcv k.val % 4 = k.val % 4 := by decide

/-- Send `k`, from memory `src` into memory `dst` of the device it goes to. -/
theorem wp_sendG {α : Type} {Q : α → sProp 𝕄} (k : Fin 12) {n : Dev nD} (hn : n = sdst c k.val) {sp sp' : Space} {src : Memref sig .tc sp S1024x4096 .bf16}
    {dst : Memref sig (Dev.tc n : Thread nD τ).2.kind sp' S1024x4096 .bf16} {sS sR : DmaSem sig}
    (h3 : sS = dsem (1 + k.val) (by omega)) (h4 : sR = dsem (1 + (12 + srcv k.val)) (by have := srcv_lt k.isLt; omega))
    {hsc : dst.view.ref.isScScratch = false} {hsrc : src.view.WordExact} {hdst : dst.view.WordExact}
    {hsem : DmaTarget.Typed sp (.dma sR) (.remote (Dev.tc n : Thread nD τ) dst (.dma sS) hsc)}
    {cont : PUnit → Prog (TpuEff nD τ sig (Elt F) Λ₀ .tc) α} (q : PosShare TreeShare) (fs : Buf (Elt F) (src.view.loc (c : Thread nD τ)))
    (fd : Buf (Elt F) (dst.view.loc (Dev.tc n : Thread nD τ))) (hN : dst.view.dmaCredit = NC)
    (hp1 : (src.view.loc (c : Thread nD τ) ↦[src.view.set]{q} fs) ⊢ (sendPay m c k.val : sProp 𝕄))
    (hp2 : (dst.view.loc (Dev.tc n : Thread nD τ) ↦[dst.view.set]{fullShare} dst.view.write (Elt F) fd (src.view.read (Elt F) fs) Finset.univ)
      ⊢ (recvPay m n (srcv k.val) : sProp 𝕄)) :
    iprop(recs m K ∗ tok c k ∗ (src.view.loc (c : Thread nD τ) ↦[src.view.set]{q} fs)
        ∗ (dst.view.loc (Dev.tc n : Thread nD τ) ↦[dst.view.set]{fullShare} fd) ∗ owesE c (k.val + 2))
      ⊢ iprop(((pend c ⟨k.val, by omega⟩ ∗ owesE c (k.val + 3)) -∗ WP c (cont ⟨⟩) Q)
          -∗ WP c (.op (.enqueueDma src (.remote (Dev.tc n : Thread nD τ) dst (.dma sS) hsc) (.dma sR) hsrc hdst hsem) cont) Q) := by
  subst hn h3 h4
  unfold tok owesE
  iintro ⟨#HR, ⟨Ht1, Ht2, Hat⟩, Hs, Hd, ⟨%W, HO⟩⟩ Hk
  have h24 : k.val < 24 := by omega
  have h25 : 1 + k.val < 31 := by omega
  have h26 : 1 + (12 + srcv k.val) < 31 := by have := srcv_lt k.isLt; omega
  have hdue : due c (k.val + 2) (by omega) = xCell (sdst c k.val) (12 + srcv k.val) (srcv_lt k.isLt) := by
    unfold due; rw [if_neg (by omega), if_neg (by omega)]; rfl
  iapply (Rounds.wp_send_pointsTo 𝒱₀ ER (Rd m) (c : Thread nD τ) none (sS := .dma (dsem (1 + k.val) h25))
      (sem := .dma (dsem (1 + (12 + srcv k.val)) h26)) (κ₁ := kx K c k.val h24) (κ₂ := kx K (sdst c k.val) (12 + srcv k.val) (srcv_lt k.isLt))
      (r₁ := 0) (r₂ := 0) (d₁ := false) (d₂ := false) (fd := fd) (fs := fs) (q := q)
      (by rw [duties_x m c k.val h24]; exact Finset.mem_singleton_self _)
      (by rw [duties_x m (sdst c k.val) (12 + srcv k.val) (srcv_lt k.isLt)]; exact Finset.mem_singleton_self _)
      () () NC hN (amount_x m c k.val h24 false) (amount_x m (sdst c k.val) (12 + srcv k.val) (srcv_lt k.isLt) false)
      (O₀ := Ow c (k.val + 2)) (Ow c (k.val + 3)) (by rw [Ow_peel c (k.val + 2) (by omega), hdue]; unfold damt; rw [if_neg (by omega)]) (W := W)
      (by rw [payload_x m c k.val h24]; unfold xPay; rw [if_pos k.isLt]; exact hp1)
      (by
        rw [payload_x m (sdst c k.val) (12 + srcv k.val) (srcv_lt k.isLt)]; unfold xPay
        rw [if_neg (by omega), Nat.add_sub_cancel_left]; exact hp2)) $$ [Ht1 Ht2 Hs Hd HO]
  · isplitr; · iapply (inv_x m K c k.val h24); iexact HR
    isplitr; · iapply (inv_x m K (sdst c k.val) (12 + srcv k.val) (srcv_lt k.isLt)); iexact HR
    isplitl [Hs]; · iexact Hs
    isplitl [Hd]; · iexact Hd
    isplitl [HO]; · iexact HO
    isplitl [Ht1]; · iexact Ht1
    isplitr; · iapply (reached_x m K c k.val h24); iexact HR
    isplitl [Ht2]; · iexact Ht2
    iapply (reached_x m K (sdst c k.val) (12 + srcv k.val) (srcv_lt k.isLt)); iexact HR
  iintro ⟨Hc, HO⟩
  iapply Hk
  unfold pend
  isplitl [Hat Hc]
  · isplitl [Hat]; · iexact Hat
    iexact Hc
  iexists W; iexact HO

/-- An own send: piece `p` of the product into the sender's rows of the neighbour's result. -/
theorem wp_sendOwn {α : Type} {Q : α → sProp 𝕄} (k : Fin 12) (p : Fin 4) (hk : k.val < 8) (hp : p.val = k.val / 2) (e : Dev nD) (he : sdst c k.val = e) (n' : Fin 24) (hn' : n'.val = k.val) (j j' : ℕ) (hj : j = k.val + 2) (hj' : j' = k.val + 3)
    {n : Dev nD} (hn : n = e)
    {src : Memref sig .tc .vmem S1024x4096 .bf16} {dst : Memref sig (Dev.tc n : Thread nD τ).2.kind .hbm S1024x4096 .bf16} {sS sR : DmaSem sig}
    (h1 : src = cM p) (h2 : dst = oM c p) (h3 : sS = dsem (1 + k.val) (by omega)) (h4 : sR = dsem (1 + (12 + srcv k.val)) (by have := srcv_lt k.isLt; omega))
    {hsc : dst.view.ref.isScScratch = false} {hsrc : src.view.WordExact} {hdst : dst.view.WordExact}
    {hsem : DmaTarget.Typed .vmem (.dma sR) (.remote (Dev.tc n : Thread nD τ) dst (.dma sS) hsc)}
    {cont : PUnit → Prog (TpuEff nD τ sig (Elt F) Λ₀ .tc) α} :
    iprop(recs m K ∗ tok c k ∗ cPts m c p.val (shr k.val) ∗ oAny e c p.val ∗ owesE c j)
      ⊢ iprop(((pend c n' ∗ owesE c j') -∗ WP c (cont ⟨⟩) Q)
          -∗ WP c (.op (.enqueueDma src (.remote (Dev.tc n : Thread nD τ) dst (.dma sS) hsc) (.dma sR) hsrc hdst hsem) cont) Q) := by
  have hk24 : k.val < 24 := by omega
  obtain rfl : n' = ⟨k.val, hk24⟩ := Fin.ext hn'
  subst h1 h2 hj hj' he
  unfold oAny
  iintro ⟨#HR, Ht, Hs, ⟨%f, Hd⟩, HO⟩ Hk
  subst hn
  iapply (wp_sendG m K c k rfl h3 h4 (shr k.val) (CF m c) f (credit_o c p)
      (by rw [cPts_view]; unfold sendPay; rw [if_pos hk, hp])
      (by
        refine (Entails.of_eq (write_own m c (sdst c k.val) p f)).trans ?_
        unfold recvPay; rw [(rsrc_own c k hk).1, (rsrc_own c k hk).2, hp])) $$ [Ht Hs Hd HO]
  · isplitr; · iexact HR
    isplitl [Ht]; · iexact Ht
    isplitl [Hs]; · rw [cPts_view]; iexact Hs
    isplitl [Hd]; · iapply (Entails.of_eq (oPts_view (sdst c k.val) c p f).symm) $$ Hd
    iexact HO
  iexact Hk

/-- A forwarding send: a piece of the result that arrived into the same rows of the next device's result. -/
theorem wp_sendFwd {α : Type} {Q : α → sProp 𝕄} (k : Fin 12) (p : Fin 4) (d : Dev nD) (hk : ¬ k.val < 8) (hp : p.val = k.val % 4) (hd : fsrc c k.val = d) (e : Dev nD) (he : sdst c k.val = e) (n' : Fin 24) (hn' : n'.val = k.val) (j j' : ℕ) (hj : j = k.val + 2) (hj' : j' = k.val + 3)
    {n : Dev nD} (hn : n = e)
    {src : Memref sig .tc .hbm S1024x4096 .bf16} {dst : Memref sig (Dev.tc n : Thread nD τ).2.kind .hbm S1024x4096 .bf16} {sS sR : DmaSem sig}
    (h1 : src = oM d p) (h2 : dst = oM d p) (h3 : sS = dsem (1 + k.val) (by omega)) (h4 : sR = dsem (1 + (12 + srcv k.val)) (by have := srcv_lt k.isLt; omega))
    {hsc : dst.view.ref.isScScratch = false} {hsrc : src.view.WordExact} {hdst : dst.view.WordExact}
    {hsem : DmaTarget.Typed .hbm (.dma sR) (.remote (Dev.tc n : Thread nD τ) dst (.dma sS) hsc)}
    {cont : PUnit → Prog (TpuEff nD τ sig (Elt F) Λ₀ .tc) α} :
    iprop(recs m K ∗ tok c k ∗ oPts c d p.val (OF m) ∗ oAny e d p.val ∗ owesE c j)
      ⊢ iprop(((pend c n' ∗ owesE c j') -∗ WP c (cont ⟨⟩) Q)
          -∗ WP c (.op (.enqueueDma src (.remote (Dev.tc n : Thread nD τ) dst (.dma sS) hsc) (.dma sR) hsrc hdst hsem) cont) Q) := by
  have hk24 : k.val < 24 := by omega
  obtain rfl : n' = ⟨k.val, hk24⟩ := Fin.ext hn'
  subst h1 h2 hj hj' he
  unfold oAny
  iintro ⟨#HR, Ht, Hs, ⟨%f, Hd⟩, HO⟩ Hk
  subst hn
  iapply (wp_sendG m K c k rfl h3 h4 fullShare (OF m) f (credit_o d p)
      (by rw [oPts_view]; unfold sendPay; rw [if_neg hk, hp, hd])
      (by
        refine (Entails.of_eq (write_fwd m d (sdst c k.val) p f)).trans ?_
        unfold recvPay; rw [(rsrc_fwd c k hk).1, (rsrc_fwd c k hk).2, hp, hd])) $$ [Ht Hs Hd HO]
  · isplitr; · iexact HR
    isplitl [Ht]; · iexact Ht
    isplitl [Hs]; · rw [oPts_view]; iexact Hs
    isplitl [Hd]; · iapply (Entails.of_eq (oPts_view (sdst c k.val) d p f).symm) $$ Hd
    iexact HO
  iexact Hk

/-! ## The waits on the transfer cells -/

/-- The wait on transfer cell `n`, `j` dues paid: its payload, and its semaphore at zero. -/
theorem wp_waitX {α : Type} {Q : α → sProp 𝕄} (n : Fin 24) (P : sProp 𝕄) (hP : xPay m c n.val = P) (j : ℕ) (v : ℕ) (hv : lv (xCell c n.val n.isLt) () ≤ v) (hj : ∀ i : Fin 14, j ≤ i.val → v < dlev i.val)
    {sp sp' : Space} {src : Memref sig .tc sp S1024x4096 .bf16} {dst : Memref sig .tc sp' S1024x4096 .bf16} {sm : DmaSem sig}
    (h3 : sm = dsem (1 + n.val) (by omega)) (hN : dst.view.dmaCredit = NC)
    {hsrc : src.view.WordExact} {hdst : dst.view.WordExact} {cont : PUnit → Prog (TpuEff nD τ sig (Elt F) Λ₀ .tc) α} :
    iprop(recs m K ∗ pend c n ∗ owesE c j)
      ⊢ iprop(((P ∗ zX c n ∗ owesE c j) -∗ WP c (cont ⟨⟩) Q)
          -∗ WP c (.op (.waitDma2 sm src dst hsrc hdst) cont) Q) := by
  subst h3 hP
  unfold pend owesE
  have h31 : 1 + n.val < 31 := by omega
  have hE : 0 + dst.view.dmaCredit = (Rd (F := F) m).expect (xCell c n.val n.isLt) 0 := by rw [Nat.zero_add, hN, expect_x m c n.val n.isLt]
  iintro ⟨#HR, ⟨Hat, Hc⟩, ⟨%W, HO⟩⟩ Hk
  rw [← hN]
  iapply (Rounds.wp_wait_rest_token 𝒱₀ ER (Rd m) (c : Thread nD τ) none (κ := kx K c n.val n.isLt)
      (wpE_waitDma2_eq 𝒱₀ (c : Thread nD τ) none Set.univ) (Set.mem_univ _) () (O := Ow c j) (W := W) (R := 0) (m := 0) (T := ∅)
      hE) $$ [Hc HO Hat]
  · isplitr; · iapply (inv_x m K c n.val n.isLt); iexact HR
    isplitl [Hc]; · iexact Hc
    isplitl [HO]; · iexact HO
    isplitr; · iapply ((recs_lev m K).trans (mayWait c (.dma (dsem (1 + n.val) h31)) j v hv hj)); iexact HR
    iexact Hat
  iintro ⟨HO, Hat, -, Hpay⟩
  ihave Hp := (Entails.of_eq (rest_x m c n.val n.isLt)) $$ Hpay
  imod (Rounds.cell_close ER (Rd m) (Set.mem_univ (kx K c n.val n.isLt)) (fun h => h) (R := 0 + 1) (duties_later m (xCell c n.val n.isLt))) $$ [Hat] with Hz
  · isplitr; · iapply (inv_x m K c n.val n.isLt); iexact HR
    iexact Hat
  iapply Hk
  isplitl [Hp]; · iexact Hp
  isplitl [Hz]; · unfold zX zero; iexact Hz
  iexists _; iexact HO

/-- The same once every due is paid. -/
theorem wp_waitE {α : Type} {Q : α → sProp 𝕄} (n : Fin 24) (P : sProp 𝕄) (hP : xPay m c n.val = P) {sp sp' : Space} {src : Memref sig .tc sp S1024x4096 .bf16} {dst : Memref sig .tc sp' S1024x4096 .bf16} {sm : DmaSem sig}
    (h3 : sm = dsem (1 + n.val) (by omega)) (hN : dst.view.dmaCredit = NC)
    {hsrc : src.view.WordExact} {hdst : dst.view.WordExact} {cont : PUnit → Prog (TpuEff nD τ sig (Elt F) Λ₀ .tc) α} :
    iprop(recs m K ∗ pend c n ∗ owesE c 14)
      ⊢ iprop(((P ∗ zX c n ∗ owesE c 14) -∗ WP c (cont ⟨⟩) Q)
          -∗ WP c (.op (.waitDma2 sm src dst hsrc hdst) cont) Q) :=
  wp_waitX m K c n P hP 14 _ (Nat.le_refl _) (fun i hi => by omega) h3 hN

/-! ## The barrier -/

/-- The signal to the left: the rows the left neighbour will write here. -/
theorem wp_sigL {α : Type} {Q : α → sProp 𝕄} {n : Dev nD} (hn : n = lf c) {w : ℤ} (hw : w = 1) {k : PUnit → Prog (TpuEff nD τ sig (Elt F) Λ₀ .tc) α} :
    iprop(recs m K ∗ dutyTok ER (barCell (lf c)) 0 false ∗ sixPts c (lf c) (dg c) 0 1 ∗ owesE c 0)
      ⊢ iprop((owesE c 1 -∗ WP c (k ⟨⟩) Q) -∗ WP c (.op (.semSignal (Dev.tc n : Thread nD τ) barS w) k) Q) := by
  subst hn hw
  unfold owesE
  iintro ⟨#HR, Ht, Hp, ⟨%W, HO⟩⟩ Hk
  iapply (Rounds.wp_signal 𝒱₀ ER (Rd m) (c : Thread nD τ) none (dst := (lf c : Thread nD τ)) (κ := K (lf c, 0))
      (d := false) (by rw [duties_bar m]; exact Finset.mem_univ _) ((amount_bar m (lf c) false).trans (by decide)) () (O₀ := Ow c 0) (Ow c 1)
      (by rw [Ow_peel c 0 (by decide)]; rfl) (W := W)) $$ [HO Ht Hp]
  · isplitr; · iapply (inv_bar m K (lf c)); iexact HR
    isplitl [HO]; · iexact HO
    isplitl [Ht]; · iexact Ht
    isplitl [Hp]; · rw [payload_bar_false]; unfold barF; rw [rt_lf, lf_lf]; iexact Hp
    iapply (reached_bar m K (lf c)); iexact HR
  iintro HO
  iapply Hk; iexists W; iexact HO

/-- The signal to the right. -/
theorem wp_sigR {α : Type} {Q : α → sProp 𝕄} {n : Dev nD} (hn : n = rt c) {w : ℤ} (hw : w = 1) {k : PUnit → Prog (TpuEff nD τ sig (Elt F) Λ₀ .tc) α} :
    iprop(recs m K ∗ dutyTok ER (barCell (rt c)) 0 true ∗ sixPts c (rt c) (dg c) 2 3 ∗ owesE c 1)
      ⊢ iprop((owesE c 2 -∗ WP c (k ⟨⟩) Q) -∗ WP c (.op (.semSignal (Dev.tc n : Thread nD τ) barS w) k) Q) := by
  subst hn hw
  unfold owesE
  iintro ⟨#HR, Ht, Hp, ⟨%W, HO⟩⟩ Hk
  iapply (Rounds.wp_signal 𝒱₀ ER (Rd m) (c : Thread nD τ) none (dst := (rt c : Thread nD τ)) (κ := K (rt c, 0))
      (d := true) (by rw [duties_bar m]; exact Finset.mem_univ _) ((amount_bar m (rt c) true).trans (by decide)) () (O₀ := Ow c 1) (Ow c 2)
      (by rw [Ow_peel c 1 (by decide)]; rfl) (W := W)) $$ [HO Ht Hp]
  · isplitr; · iapply (inv_bar m K (rt c)); iexact HR
    isplitl [HO]; · iexact HO
    isplitl [Ht]; · iexact Ht
    isplitl [Hp]; · rw [payload_bar_true]; unfold barT; rw [lf_rt, rt_rt]; iexact Hp
    iapply (reached_bar m K (rt c)); iexact HR
  iintro HO
  iapply Hk; iexists W; iexact HO

/-- The wait for both neighbours: the rows to write on each side. -/
theorem wp_bar {α : Type} {Q : α → sProp 𝕄} {w : ℤ} (hw : w = 2) {k : PUnit → Prog (TpuEff nD τ sig (Elt F) Λ₀ .tc) α} :
    iprop(recs m K ∗ atPos ER (barCell c) 0 ∅ 0 ∗ cred (tallyAt (barCell c) () 2) ∗ owesE c 2)
      ⊢ iprop(((barF c ∗ barT c ∗ semVal (barCell c) 0 ∗ owesE c 2) -∗ WP c (k ⟨⟩) Q) -∗ WP c (.op (.semWait barS w) k) Q) := by
  subst hw
  unfold owesE
  iintro ⟨#HR, Hat, Hc, ⟨%W, HO⟩⟩ Hk
  iapply (Rounds.wp_wait_rest_token 𝒱₀ ER (Rd m) (c : Thread nD τ) none (κ := K (c, 0))
      (wpE_semWait_eq 𝒱₀ (c : Thread nD τ) none Set.univ) (Set.mem_univ _) () (O := Ow c 2) (W := W) (R := 0) (m := 0) (T := ∅)
      (show 0 + (2 : ℤ).toNat = _ from (expect_bar m c).symm)) $$ [Hc HO Hat]
  · isplitr; · iapply (inv_bar m K c); iexact HR
    isplitl [Hc]; · iexact Hc
    isplitl [HO]; · iexact HO
    isplitr; · iapply ((recs_lev m K).trans (mayWait c (.reg barS) 2 1 (Nat.le_refl _) (by decide))); iexact HR
    iexact Hat
  iintro ⟨HO, Hat, -, Hpay⟩
  ihave Hp := (Entails.of_eq (rest_bar m c)) $$ Hpay
  imod (Rounds.cell_close ER (Rd m) (Set.mem_univ (K (c, 0))) (fun h => h) (R := 0 + 1) (duties_later m (barCell c))) $$ [Hat] with Hz
  · isplitr; · iapply (inv_bar m K c); iexact HR
    iexact Hat
  icases Hp with ⟨HF, HT⟩
  iapply Hk
  isplitl [HF]; · iexact HF
  isplitl [HT]; · iexact HT
  isplitl [Hz]; · iexact Hz
  iexists _; iexact HO

end Cert.KernelIdeal.Ring
-- ==== Proof.KernelIdeal.Parts.lean ====
/-
# The body, part by part

Each part of the body from the pieces it uses to the pieces it leaves.
-/
module

public import proofs.«01_k».proof.Proof.KernelIdeal.Rules

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 25 → ℕ) (c : Dev nD)

theorem credit_any {sp : Space} (v : Memref sig .tc sp S1024x4096 .bf16) : v.view.dmaCredit = NC := rfl

theorem wp_done {α : Type} {Q : α → sProp 𝕄} {a : α} : Q a ⊢ WP c (.ret a) Q := fupd_intro

theorem part1 {Q : (Σ' (_ : Dev nD) (_ : BitVec 32) (_ : BitVec 32), BitVec 32) → sProp 𝕄} :
    iprop(recs m K ∗ dutyTok ER (barCell (lf c)) 0 false ∗ dutyTok ER (barCell (rt c)) 0 true ∗ sixPts c (lf c) (dg c) 0 1 ∗ sixPts c (rt c) (dg c) 2 3
        ∗ atPos ER (barCell c) 0 ∅ 0 ∗ cred (tallyAt (barCell c) () 2) ∗ owesE c 0)
      ⊢ iprop((∀ v2 : BitVec 32, ∀ v14 : BitVec 32, ∀ v25 : BitVec 32, (barF c ∗ barT c ∗ semVal (barCell c) 0 ∗ owesE c 2) -∗ Q ⟨c, v2, v14, v25⟩)
          -∗ WP c (k0_part1 (F := F) aW (Memref.isWhole_whole _) bW (Memref.isWhole_whole _) oW (Memref.isWhole_whole _) cW (Memref.isWhole_whole _) tW (Memref.isWhole_whole _) cc0_scratch2 cc0_scratch3 cc0_scratch4 cc0_scratch5) Q) := by
  rw [k0_part1_eq_skeleton]; unfold k0_part1_skel
  simp only [semSignalWord, semWaitWord, Prog.lift, Prog.bind_op, Prog.bind_ret, Prog.pure_eq_ret, wp_deviceId]
  iintro ⟨#HR, Ht1, Ht2, Hs1, Hs2, Hat, Hc, HO⟩ Hk
  iapply (wp_sigL m K c (dev1_eq c) (by decide)) $$ [$]; iintro HO
  iapply (wp_sigR m K c (dev2_eq c) (by decide)) $$ [$]; iintro HO
  iapply (wp_bar m K c (by decide)) $$ [$]; iintro ⟨HF, HT, Hz, HO⟩
  iapply (wp_done c)
  iapply Hk $$ [$]

theorem part2 {Q : PUnit → sProp 𝕄} :
    iprop(recs m K ∗ aPts m c ((0 : Fin 8) : ℕ) ∗ sAny c ((0 : Fin 2) : ℕ) ∗ zS c 0 ∗ aPts m c ((1 : Fin 8) : ℕ) ∗ sAny c ((1 : Fin 2) : ℕ) ∗ zS c 1 ∗ owesE c 2 ∗ bPts m c ∗ tAny c ((0 : Fin 8) : ℕ))
      ⊢ iprop(((fetching m c 1 1 ∗ aPts m c ((0 : Fin 8) : ℕ) ∗ zS c 0 ∗ owesE c 2 ∗ sAny c ((0 : Fin 2) : ℕ) ∗ bPts m c ∗ tPts c ((0 : Fin 8) : ℕ) (CF m c)) -∗ Q ⟨⟩) -∗ WP c (k0_part2 (F := F) aW (Memref.isWhole_whole _) bW (Memref.isWhole_whole _) oW (Memref.isWhole_whole _) cW (Memref.isWhole_whole _) tW (Memref.isWhole_whole _) cc0_scratch2 cc0_scratch3 cc0_scratch4 cc0_scratch5) Q) := by
  rw [k0_part2_eq_skeleton]; unfold k0_part2_skel
  simp only [Prog.lift, Prog.bind_op, Prog.bind_ret, Prog.pure_eq_ret]
  iintro ⟨#HR, Ha0, Hs0, HzS0, Ha1, Hs1, HzS1, HO, Hb, Ht0⟩ Hk
  iapply (wp_fetch m c 0 0 rfl rfl rfl) $$ [$]; iintro Hf0
  iapply (wp_fetch m c 1 1 rfl rfl rfl) $$ [$]; iintro Hf1
  iapply (wp_fetchWait m K c 0 0 2 rfl rfl) $$ [$]; iintro ⟨Hh0, Ha0, HzS0, HO⟩
  iapply (wp_loadSlot m c 0 0 rfl) $$ [$]; iintro %vt0 %hv0 Hs0
  iapply (wp_loadB m c) $$ [$]; iintro Hb
  iapply (wp_loadC c 0 rfl) $$ [$]; iintro %u0 Ht0
  iapply (wp_storeC m c 0 rfl (ct_of m c 0 hv0)) $$ [$]; iintro Ht0
  iapply (wp_done c)
  iapply Hk $$ [$]

theorem part3 (v2 v25 : BitVec 32) {Q : PUnit → sProp 𝕄} :
    iprop(recs m K ∗ aPts m c ((2 : Fin 8) : ℕ) ∗ sAny c ((0 : Fin 2) : ℕ) ∗ zS c 0 ∗ fetching m c 1 1 ∗ owesE c 2 ∗ bPts m c ∗ tAny c ((1 : Fin 8) : ℕ) ∗ tPts c ((0 : Fin 8) : ℕ) (CF m c) ∗ oAny c c ((0 : Fin 4) : ℕ) ∗ zC c 0)
      ⊢ iprop(((fetching m c 0 2 ∗ aPts m c ((1 : Fin 8) : ℕ) ∗ zS c 1 ∗ owesE c 2 ∗ sAny c ((1 : Fin 2) : ℕ) ∗ bPts m c ∗ cPts m c ((0 : Fin 4) : ℕ) (shr ((0 : Fin 12) : ℕ)) ∗ cPts m c ((0 : Fin 4) : ℕ) (shr ((1 : Fin 12) : ℕ)) ∗ copying m c 0) -∗ Q ⟨⟩) -∗ WP c (k0_part3 (F := F) aW (Memref.isWhole_whole _) bW (Memref.isWhole_whole _) oW (Memref.isWhole_whole _) cW (Memref.isWhole_whole _) tW (Memref.isWhole_whole _) cc0_scratch2 cc0_scratch3 cc0_scratch4 cc0_scratch5 c v2 v25) Q) := by
  rw [k0_part3_eq_skeleton]; unfold k0_part3_skel
  simp only [Prog.lift, Prog.bind_op, Prog.bind_ret, Prog.pure_eq_ret]
  iintro ⟨#HR, Ha2, Hs0, HzS0, Hf1, HO, Hb, Ht1, Ht0, Ho_cc0, HzC0⟩ Hk
  iapply (wp_fetch m c 0 2 rfl rfl rfl) $$ [$]; iintro Hf0
  iapply (wp_fetchWait m K c 1 1 2 rfl rfl) $$ [$]; iintro ⟨Hh1, Ha1, HzS1, HO⟩
  iapply (wp_loadSlot m c 1 1 rfl) $$ [$]; iintro %vt1 %hv1 Hs1
  iapply (wp_loadB m c) $$ [$]; iintro Hb
  iapply (wp_loadC c 1 rfl) $$ [$]; iintro %u1 Ht1
  iapply (wp_storeC m c 1 rfl (ct_of m c 1 hv1)) $$ [$]; iintro Ht1
  ihave Hx := (piece_split m c 0 1 0 0 1 rfl rfl rfl rfl) $$ [Ht0 Ht1]
  · isplitl [Ht0] <;> iassumption
  icases Hx with ⟨HcL0, HcS0, HcS1⟩
  iapply (wp_copy m c 0 rfl (oM_of c 0 (k0_off1_eq c 0)) rfl) $$ [$]; iintro Hcp0
  iapply (wp_done c)
  iapply Hk $$ [$]

theorem part4 (v2 v14 : BitVec 32) {Q : (FVec F S512x2048 .bf16) → sProp 𝕄} :
    iprop(recs m K ∗ tok c 0 ∗ cPts m c ((0 : Fin 4) : ℕ) (shr ((0 : Fin 12) : ℕ)) ∗ oAny (rt c) c ((0 : Fin 4) : ℕ) ∗ owesE c 2 ∗ tok c 1 ∗ cPts m c ((0 : Fin 4) : ℕ) (shr ((1 : Fin 12) : ℕ)) ∗ oAny (lf c) c ((0 : Fin 4) : ℕ) ∗ aPts m c ((3 : Fin 8) : ℕ) ∗ sAny c ((1 : Fin 2) : ℕ) ∗ zS c 1 ∗ fetching m c 0 2)
      ⊢ iprop(((pend c 0 ∗ pend c 1 ∗ fetching m c 1 3 ∗ aPts m c ((2 : Fin 8) : ℕ) ∗ zS c 0 ∗ owesE c 4 ∗ sAny c ((0 : Fin 2) : ℕ)) -∗ Q (AT m c 2)) -∗ WP c (k0_part4 (F := F) aW (Memref.isWhole_whole _) bW (Memref.isWhole_whole _) oW (Memref.isWhole_whole _) cW (Memref.isWhole_whole _) tW (Memref.isWhole_whole _) cc0_scratch2 cc0_scratch3 cc0_scratch4 cc0_scratch5 c v2 v14) Q) := by
  rw [k0_part4_eq_skeleton]; unfold k0_part4_skel
  simp only [Prog.lift, Prog.bind_op, Prog.bind_ret, Prog.pure_eq_ret]
  iintro ⟨#HR, Hk0, HcS0, Ho_rc0, HO, Hk1, HcS1, Ho_lc0, Ha3, Hs1, HzS1, Hf0⟩ Hk
  iapply (wp_sendOwn m K c 0 0 (by decide) rfl (rt c) rfl 0 rfl 2 3 rfl rfl (dev3_eq c) rfl (oM_of c 0 (k0_off1_eq c 0)) rfl rfl) $$ [$]; iintro ⟨Hp0, HO⟩
  iapply (wp_sendOwn m K c 1 0 (by decide) rfl (lf c) rfl 1 rfl 3 4 rfl rfl (dev4_eq c) rfl (oM_of c 0 (k0_off1_eq c 0)) rfl rfl) $$ [$]; iintro ⟨Hp1, HO⟩
  iapply (wp_fetch m c 1 3 rfl rfl rfl) $$ [$]; iintro Hf1
  iapply (wp_fetchWait m K c 0 2 4 rfl rfl) $$ [$]; iintro ⟨Hh0, Ha2, HzS0, HO⟩
  iapply (wp_loadSlot m c 0 2 rfl) $$ [$]; iintro %vt2 %hv2 Hs0
  rw [show k0_pay3 (F := F) vt2 = AT m c 2 from hv2]
  iapply (wp_done c)
  iapply Hk $$ [$]

theorem part5 (v2 : BitVec 32) {Q : PUnit → sProp 𝕄} :
    iprop(recs m K ∗ bPts m c ∗ tAny c ((2 : Fin 8) : ℕ) ∗ aPts m c ((4 : Fin 8) : ℕ) ∗ sAny c ((0 : Fin 2) : ℕ) ∗ zS c 0 ∗ fetching m c 1 3 ∗ owesE c 4 ∗ tAny c ((3 : Fin 8) : ℕ))
      ⊢ iprop(((tPts c ((2 : Fin 8) : ℕ) (CF m c) ∗ fetching m c 0 4 ∗ aPts m c ((3 : Fin 8) : ℕ) ∗ zS c 1 ∗ owesE c 4 ∗ sAny c ((1 : Fin 2) : ℕ) ∗ bPts m c ∗ tPts c ((3 : Fin 8) : ℕ) (CF m c)) -∗ Q ⟨⟩) -∗ WP c (k0_part5 (F := F) aW (Memref.isWhole_whole _) bW (Memref.isWhole_whole _) oW (Memref.isWhole_whole _) cW (Memref.isWhole_whole _) tW (Memref.isWhole_whole _) cc0_scratch2 cc0_scratch3 cc0_scratch4 cc0_scratch5 v2 (AT m c 2)) Q) := by
  rw [k0_part5_eq_skeleton]; unfold k0_part5_skel
  simp only [Prog.lift, Prog.bind_op, Prog.bind_ret, Prog.pure_eq_ret]
  iintro ⟨#HR, Hb, Ht2, Ha4, Hs0, HzS0, Hf1, HO, Ht3⟩ Hk
  iapply (wp_loadB m c) $$ [$]; iintro Hb
  iapply (wp_loadC c 2 rfl) $$ [$]; iintro %u2 Ht2
  iapply (wp_storeC m c 2 rfl rfl) $$ [$]; iintro Ht2
  iapply (wp_fetch m c 0 4 rfl rfl rfl) $$ [$]; iintro Hf0
  iapply (wp_fetchWait m K c 1 3 4 rfl rfl) $$ [$]; iintro ⟨Hh1, Ha3, HzS1, HO⟩
  iapply (wp_loadSlot m c 1 3 rfl) $$ [$]; iintro %vt3 %hv3 Hs1
  iapply (wp_loadB m c) $$ [$]; iintro Hb
  iapply (wp_loadC c 3 rfl) $$ [$]; iintro %u3 Ht3
  iapply (wp_storeC m c 3 rfl (ct_of m c 3 hv3)) $$ [$]; iintro Ht3
  iapply (wp_done c)
  iapply Hk $$ [$]

theorem part6 (v2 v14 v25 : BitVec 32) {Q : PUnit → sProp 𝕄} :
    iprop(recs m K ∗ tPts c ((2 : Fin 8) : ℕ) (CF m c) ∗ tPts c ((3 : Fin 8) : ℕ) (CF m c) ∗ oAny c c ((1 : Fin 4) : ℕ) ∗ zC c 1 ∗ tok c 2 ∗ oAny (rt c) c ((1 : Fin 4) : ℕ) ∗ owesE c 4 ∗ tok c 3 ∗ oAny (lf c) c ((1 : Fin 4) : ℕ) ∗ aPts m c ((5 : Fin 8) : ℕ) ∗ sAny c ((1 : Fin 2) : ℕ) ∗ zS c 1)
      ⊢ iprop(((copying m c 1 ∗ pend c 2 ∗ pend c 3 ∗ owesE c 6 ∗ fetching m c 1 5) -∗ Q ⟨⟩) -∗ WP c (k0_part6 (F := F) aW (Memref.isWhole_whole _) bW (Memref.isWhole_whole _) oW (Memref.isWhole_whole _) cW (Memref.isWhole_whole _) tW (Memref.isWhole_whole _) cc0_scratch2 cc0_scratch3 cc0_scratch4 cc0_scratch5 c v2 v14 v25) Q) := by
  rw [k0_part6_eq_skeleton]; unfold k0_part6_skel
  simp only [Prog.lift, Prog.bind_op, Prog.bind_ret, Prog.pure_eq_ret]
  iintro ⟨#HR, Ht2, Ht3, Ho_cc1, HzC1, Hk2, Ho_rc1, HO, Hk3, Ho_lc1, Ha5, Hs1, HzS1⟩ Hk
  ihave Hx := (piece_split m c 2 3 1 2 3 rfl rfl rfl rfl) $$ [Ht2 Ht3]
  · isplitl [Ht2] <;> iassumption
  icases Hx with ⟨HcL1, HcS2, HcS3⟩
  iapply (wp_copy m c 1 rfl (oM_of c 1 (k0_off1_eq c 1)) rfl) $$ [$]; iintro Hcp1
  iapply (wp_sendOwn m K c 2 1 (by decide) rfl (rt c) rfl 2 rfl 4 5 rfl rfl (dev5_eq c) rfl (oM_of c 1 (k0_off1_eq c 1)) rfl rfl) $$ [$]; iintro ⟨Hp2, HO⟩
  iapply (wp_sendOwn m K c 3 1 (by decide) rfl (lf c) rfl 3 rfl 5 6 rfl rfl (dev6_eq c) rfl (oM_of c 1 (k0_off1_eq c 1)) rfl rfl) $$ [$]; iintro ⟨Hp3, HO⟩
  iapply (wp_fetch m c 1 5 rfl rfl rfl) $$ [$]; iintro Hf1
  iapply (wp_done c)
  iapply Hk $$ [$]

theorem part7 {Q : (Σ' (_ : FVec F S512x2048 .bf16), Vec F S2048x4096 .bf16) → sProp 𝕄} :
    iprop(recs m K ∗ fetching m c 0 4 ∗ owesE c 6 ∗ bPts m c ∗ tAny c ((4 : Fin 8) : ℕ) ∗ aPts m c ((6 : Fin 8) : ℕ) ∗ fetching m c 1 5)
      ⊢ iprop(((aPts m c ((4 : Fin 8) : ℕ) ∗ tPts c ((4 : Fin 8) : ℕ) (CF m c) ∗ fetching m c 0 6 ∗ aPts m c ((5 : Fin 8) : ℕ) ∗ zS c 1 ∗ owesE c 6 ∗ sAny c ((1 : Fin 2) : ℕ) ∗ bPts m c) -∗ Q ⟨AT m c 5, BV m c⟩) -∗ WP c (k0_part7 (F := F) aW (Memref.isWhole_whole _) bW (Memref.isWhole_whole _) oW (Memref.isWhole_whole _) cW (Memref.isWhole_whole _) tW (Memref.isWhole_whole _) cc0_scratch2 cc0_scratch3 cc0_scratch4 cc0_scratch5) Q) := by
  rw [k0_part7_eq_skeleton]; unfold k0_part7_skel
  simp only [Prog.lift, Prog.bind_op, Prog.bind_ret, Prog.pure_eq_ret]
  iintro ⟨#HR, Hf0, HO, Hb, Ht4, Ha6, Hf1⟩ Hk
  iapply (wp_fetchWait m K c 0 4 6 rfl rfl) $$ [$]; iintro ⟨Hh0, Ha4, HzS0, HO⟩
  iapply (wp_loadSlot m c 0 4 rfl) $$ [$]; iintro %vt4 %hv4 Hs0
  iapply (wp_loadB m c) $$ [$]; iintro Hb
  iapply (wp_loadC c 4 rfl) $$ [$]; iintro %u4 Ht4
  iapply (wp_storeC m c 4 rfl (ct_of m c 4 hv4)) $$ [$]; iintro Ht4
  iapply (wp_fetch m c 0 6 rfl rfl rfl) $$ [$]; iintro Hf0
  iapply (wp_fetchWait m K c 1 5 6 rfl rfl) $$ [$]; iintro ⟨Hh1, Ha5, HzS1, HO⟩
  iapply (wp_loadSlot m c 1 5 rfl) $$ [$]; iintro %vt5 %hv5 Hs1
  iapply (wp_loadB m c) $$ [$]; iintro Hb
  rw [show k0_pay7 (F := F) vt5 = AT m c 5 from hv5]
  iapply (wp_done c)
  iapply Hk $$ [$]

theorem part8 (v2 v14 v25 : BitVec 32) {Q : PUnit → sProp 𝕄} :
    iprop(recs m K ∗ tAny c ((5 : Fin 8) : ℕ) ∗ tPts c ((4 : Fin 8) : ℕ) (CF m c) ∗ oAny c c ((2 : Fin 4) : ℕ) ∗ zC c 2 ∗ tok c 4 ∗ oAny (rt c) c ((2 : Fin 4) : ℕ) ∗ owesE c 6)
      ⊢ iprop(((cPts m c ((2 : Fin 4) : ℕ) (shr ((5 : Fin 12) : ℕ)) ∗ copying m c 2 ∗ pend c 4 ∗ owesE c 7) -∗ Q ⟨⟩) -∗ WP c (k0_part8 (F := F) aW (Memref.isWhole_whole _) bW (Memref.isWhole_whole _) oW (Memref.isWhole_whole _) cW (Memref.isWhole_whole _) tW (Memref.isWhole_whole _) cc0_scratch2 cc0_scratch3 cc0_scratch4 cc0_scratch5 c v2 v14 v25 (AT m c 5) (BV m c)) Q) := by
  rw [k0_part8_eq_skeleton]; unfold k0_part8_skel
  simp only [Prog.lift, Prog.bind_op, Prog.bind_ret, Prog.pure_eq_ret]
  iintro ⟨#HR, Ht5, Ht4, Ho_cc2, HzC2, Hk4, Ho_rc2, HO⟩ Hk
  iapply (wp_loadC c 5 rfl) $$ [$]; iintro %u5 Ht5
  iapply (wp_storeC m c 5 rfl rfl) $$ [$]; iintro Ht5
  ihave Hx := (piece_split m c 4 5 2 4 5 rfl rfl rfl rfl) $$ [Ht4 Ht5]
  · isplitl [Ht4] <;> iassumption
  icases Hx with ⟨HcL2, HcS4, HcS5⟩
  iapply (wp_copy m c 2 rfl (oM_of c 2 (k0_off1_eq c 2)) rfl) $$ [$]; iintro Hcp2
  iapply (wp_sendOwn m K c 4 2 (by decide) rfl (rt c) rfl 4 rfl 6 7 rfl rfl (dev7_eq c) rfl (oM_of c 2 (k0_off1_eq c 2)) rfl rfl) $$ [$]; iintro ⟨Hp4, HO⟩
  iapply (wp_done c)
  iapply Hk $$ [$]

theorem part9 {Q : PUnit → sProp 𝕄} :
    iprop(recs m K ∗ tok c 5 ∗ cPts m c ((2 : Fin 4) : ℕ) (shr ((5 : Fin 12) : ℕ)) ∗ oAny (lf c) c ((2 : Fin 4) : ℕ) ∗ owesE c 7 ∗ aPts m c ((7 : Fin 8) : ℕ) ∗ sAny c ((1 : Fin 2) : ℕ) ∗ zS c 1 ∗ fetching m c 0 6 ∗ bPts m c ∗ tAny c ((6 : Fin 8) : ℕ))
      ⊢ iprop(((pend c 5 ∗ aPts m c ((6 : Fin 8) : ℕ) ∗ zS c 0 ∗ sAny c ((0 : Fin 2) : ℕ) ∗ bPts m c ∗ tPts c ((6 : Fin 8) : ℕ) (CF m c) ∗ sHas m c 1 7 ∗ aPts m c ((7 : Fin 8) : ℕ) ∗ zS c 1 ∗ owesE c 8) -∗ Q ⟨⟩) -∗ WP c (k0_part9 (F := F) aW (Memref.isWhole_whole _) bW (Memref.isWhole_whole _) oW (Memref.isWhole_whole _) cW (Memref.isWhole_whole _) tW (Memref.isWhole_whole _) cc0_scratch2 cc0_scratch3 cc0_scratch4 cc0_scratch5 c) Q) := by
  rw [k0_part9_eq_skeleton]; unfold k0_part9_skel
  simp only [Prog.lift, Prog.bind_op, Prog.bind_ret, Prog.pure_eq_ret]
  iintro ⟨#HR, Hk5, HcS5, Ho_lc2, HO, Ha7, Hs1, HzS1, Hf0, Hb, Ht6⟩ Hk
  iapply (wp_sendOwn m K c 5 2 (by decide) rfl (lf c) rfl 5 rfl 7 8 rfl rfl (dev8_eq c) rfl (oM_of c 2 (k0_off1_eq c 2)) rfl rfl) $$ [$]; iintro ⟨Hp5, HO⟩
  iapply (wp_fetch m c 1 7 rfl rfl rfl) $$ [$]; iintro Hf1
  iapply (wp_fetchWait m K c 0 6 8 rfl rfl) $$ [$]; iintro ⟨Hh0, Ha6, HzS0, HO⟩
  iapply (wp_loadSlot m c 0 6 rfl) $$ [$]; iintro %vt6 %hv6 Hs0
  iapply (wp_loadB m c) $$ [$]; iintro Hb
  iapply (wp_loadC c 6 rfl) $$ [$]; iintro %u6 Ht6
  iapply (wp_storeC m c 6 rfl (ct_of m c 6 hv6)) $$ [$]; iintro Ht6
  iapply (wp_fetchWait m K c 1 7 8 rfl rfl) $$ [$]; iintro ⟨Hh1, Ha7, HzS1, HO⟩
  iapply (wp_done c)
  iapply Hk $$ [$]

theorem part10 (v2 v14 v25 : BitVec 32) {Q : PUnit → sProp 𝕄} :
    iprop(recs m K ∗ sHas m c 1 7 ∗ bPts m c ∗ tAny c ((7 : Fin 8) : ℕ) ∗ tPts c ((6 : Fin 8) : ℕ) (CF m c) ∗ oAny c c ((3 : Fin 4) : ℕ) ∗ zC c 3 ∗ tok c 6 ∗ oAny (rt c) c ((3 : Fin 4) : ℕ) ∗ owesE c 8)
      ⊢ iprop(((sAny c ((1 : Fin 2) : ℕ) ∗ bPts m c ∗ cPts m c ((3 : Fin 4) : ℕ) (shr ((7 : Fin 12) : ℕ)) ∗ copying m c 3 ∗ pend c 6 ∗ owesE c 9) -∗ Q ⟨⟩) -∗ WP c (k0_part10 (F := F) aW (Memref.isWhole_whole _) bW (Memref.isWhole_whole _) oW (Memref.isWhole_whole _) cW (Memref.isWhole_whole _) tW (Memref.isWhole_whole _) cc0_scratch2 cc0_scratch3 cc0_scratch4 cc0_scratch5 c v2 v14 v25) Q) := by
  rw [k0_part10_eq_skeleton]; unfold k0_part10_skel
  simp only [Prog.lift, Prog.bind_op, Prog.bind_ret, Prog.pure_eq_ret]
  iintro ⟨#HR, Hh1, Hb, Ht7, Ht6, Ho_cc3, HzC3, Hk6, Ho_rc3, HO⟩ Hk
  iapply (wp_loadSlot m c 1 7 rfl) $$ [$]; iintro %vt7 %hv7 Hs1
  iapply (wp_loadB m c) $$ [$]; iintro Hb
  iapply (wp_loadC c 7 rfl) $$ [$]; iintro %u7 Ht7
  iapply (wp_storeC m c 7 rfl (ct_of m c 7 hv7)) $$ [$]; iintro Ht7
  ihave Hx := (piece_split m c 6 7 3 6 7 rfl rfl rfl rfl) $$ [Ht6 Ht7]
  · isplitl [Ht6] <;> iassumption
  icases Hx with ⟨HcL3, HcS6, HcS7⟩
  iapply (wp_copy m c 3 rfl (oM_of c 3 (k0_off1_eq c 3)) rfl) $$ [$]; iintro Hcp3
  iapply (wp_sendOwn m K c 6 3 (by decide) rfl (rt c) rfl 6 rfl 8 9 rfl rfl (dev9_eq c) rfl (oM_of c 3 (k0_off1_eq c 3)) rfl rfl) $$ [$]; iintro ⟨Hp6, HO⟩
  iapply (wp_done c)
  iapply Hk $$ [$]

theorem part11 (v2 v14 v25 : BitVec 32) {Q : PUnit → sProp 𝕄} :
    iprop(recs m K ∗ tok c 7 ∗ cPts m c ((3 : Fin 4) : ℕ) (shr ((7 : Fin 12) : ℕ)) ∗ oAny (lf c) c ((3 : Fin 4) : ℕ) ∗ owesE c 9 ∗ pend c 12 ∗ tok c 8 ∗ oAny (rt c) (lf c) ((0 : Fin 4) : ℕ))
      ⊢ iprop(((pend c 7 ∗ zX c 12 ∗ pend c 8 ∗ owesE c 11) -∗ Q ⟨⟩) -∗ WP c (k0_part11 (F := F) aW (Memref.isWhole_whole _) bW (Memref.isWhole_whole _) oW (Memref.isWhole_whole _) cW (Memref.isWhole_whole _) tW (Memref.isWhole_whole _) cc0_scratch2 cc0_scratch3 cc0_scratch4 cc0_scratch5 c v2 v14 v25) Q) := by
  rw [k0_part11_eq_skeleton]; unfold k0_part11_skel
  simp only [Prog.lift, Prog.bind_op, Prog.bind_ret, Prog.pure_eq_ret]
  iintro ⟨#HR, Hk7, HcS7, Ho_lc3, HO, Hp12, Hk8, Ho_rl0⟩ Hk
  iapply (wp_sendOwn m K c 7 3 (by decide) rfl (lf c) rfl 7 rfl 9 10 rfl rfl (dev10_eq c) rfl (oM_of c 3 (k0_off1_eq c 3)) rfl rfl) $$ [$]; iintro ⟨Hp7, HO⟩
  iapply (wp_waitX m K c 12 (oPts c (lf c) ((0 : Fin 4) : ℕ) (OF m)) rfl 10 2 (Nat.le_refl _) (by decide) rfl (credit_any _)) $$ [$]; iintro ⟨Hw_l0, HzX12, HO⟩
  iapply (wp_sendFwd m K c 8 0 (lf c) (by decide) rfl rfl (rt c) rfl 8 rfl 10 11 rfl rfl (dev11_eq c) (oM_of (lf c) 0 (off2_eq c 0)) (oM_of (lf c) 0 (off2_eq c 0)) rfl rfl) $$ [$]; iintro ⟨Hp8, HO⟩
  iapply (wp_done c)
  iapply Hk $$ [$]

theorem part12 (v2 v14 v25 : BitVec 32) {Q : (BitVec 32) → sProp 𝕄} :
    iprop(recs m K ∗ pend c 13 ∗ owesE c 11 ∗ tok c 9 ∗ oAny (rt c) (lf c) ((1 : Fin 4) : ℕ) ∗ pend c 18)
      ⊢ iprop((∀ w : BitVec 32, (zX c 13 ∗ pend c 9 ∗ oPts c (rt c) ((2 : Fin 4) : ℕ) (OF m) ∗ zX c 18 ∗ owesE c 12) -∗ Q w) -∗ WP c (k0_part12 (F := F) aW (Memref.isWhole_whole _) bW (Memref.isWhole_whole _) oW (Memref.isWhole_whole _) cW (Memref.isWhole_whole _) tW (Memref.isWhole_whole _) cc0_scratch2 cc0_scratch3 cc0_scratch4 cc0_scratch5 c v2 v14 v25) Q) := by
  rw [k0_part12_eq_skeleton]; unfold k0_part12_skel
  simp only [Prog.lift, Prog.bind_op, Prog.bind_ret, Prog.pure_eq_ret]
  iintro ⟨#HR, Hp13, HO, Hk9, Ho_rl1, Hp18⟩ Hk
  iapply (wp_waitX m K c 13 (oPts c (lf c) ((1 : Fin 4) : ℕ) (OF m)) rfl 11 2 (Nat.le_refl _) (by decide) rfl (credit_any _)) $$ [$]; iintro ⟨Hw_l1, HzX13, HO⟩
  iapply (wp_sendFwd m K c 9 1 (lf c) (by decide) rfl rfl (rt c) rfl 9 rfl 11 12 rfl rfl (dev12_eq c) (oM_of (lf c) 1 (off2_eq c 1)) (oM_of (lf c) 1 (off2_eq c 1)) rfl rfl) $$ [$]; iintro ⟨Hp9, HO⟩
  iapply (wp_waitX m K c 18 (oPts c (rt c) ((2 : Fin 4) : ℕ) (OF m)) rfl 12 2 (Nat.le_refl _) (by decide) rfl (credit_any _)) $$ [$]; iintro ⟨Hw_r2, HzX18, HO⟩
  iapply (wp_done c)
  iapply Hk $$ [$]

theorem part13 (v2 v14 v25 v339 : BitVec 32) {Q : (Σ' (_ : BitVec 32), BitVec 32) → sProp 𝕄} :
    iprop(recs m K ∗ tok c 10 ∗ oPts c (rt c) ((2 : Fin 4) : ℕ) (OF m) ∗ oAny (lf c) (rt c) ((2 : Fin 4) : ℕ) ∗ owesE c 12 ∗ pend c 19 ∗ tok c 11 ∗ oAny (lf c) (rt c) ((3 : Fin 4) : ℕ))
      ⊢ iprop((∀ w : BitVec 32, ∀ w2 : BitVec 32, (pend c 10 ∗ zX c 19 ∗ pend c 11 ∗ owesE c 14) -∗ Q ⟨w, w2⟩) -∗ WP c (k0_part13 (F := F) aW (Memref.isWhole_whole _) bW (Memref.isWhole_whole _) oW (Memref.isWhole_whole _) cW (Memref.isWhole_whole _) tW (Memref.isWhole_whole _) cc0_scratch2 cc0_scratch3 cc0_scratch4 cc0_scratch5 c v2 v14 v25 v339) Q) := by
  rw [k0_part13_eq_skeleton]; unfold k0_part13_skel
  simp only [Prog.lift, Prog.bind_op, Prog.bind_ret, Prog.pure_eq_ret]
  iintro ⟨#HR, Hk10, Hw_r2, Ho_lr2, HO, Hp19, Hk11, Ho_lr3⟩ Hk
  iapply (wp_sendFwd m K c 10 2 (rt c) (by decide) rfl rfl (lf c) rfl 10 rfl 12 13 rfl rfl (dev13_eq c) (oM_of (rt c) 2 (off3_eq1 c 2)) (oM_of (rt c) 2 (off3_eq1 c 2)) rfl rfl) $$ [$]; iintro ⟨Hp10, HO⟩
  iapply (wp_waitX m K c 19 (oPts c (rt c) ((3 : Fin 4) : ℕ) (OF m)) rfl 13 2 (Nat.le_refl _) (by decide) rfl (credit_any _)) $$ [$]; iintro ⟨Hw_r3, HzX19, HO⟩
  iapply (wp_sendFwd m K c 11 3 (rt c) (by decide) rfl rfl (lf c) rfl 11 rfl 13 14 rfl rfl (dev14_eq c) (oM_of (rt c) 3 (off3_eq1 c 3)) (oM_of (rt c) 3 (off3_eq1 c 3)) rfl rfl) $$ [$]; iintro ⟨Hp11, HO⟩
  iapply (wp_done c)
  iapply Hk $$ [$]

theorem part14 (v2 v14 v25 v369 v370 : BitVec 32) {Q : (BitVec 32) → sProp 𝕄} :
    iprop(recs m K ∗ pend c 14 ∗ owesE c 14 ∗ pend c 15)
      ⊢ iprop((∀ w : BitVec 32, (oPts c (lf c) ((2 : Fin 4) : ℕ) (OF m) ∗ zX c 14 ∗ oPts c (lf c) ((3 : Fin 4) : ℕ) (OF m) ∗ zX c 15 ∗ owesE c 14) -∗ Q w) -∗ WP c (k0_part14 (F := F) aW (Memref.isWhole_whole _) bW (Memref.isWhole_whole _) oW (Memref.isWhole_whole _) cW (Memref.isWhole_whole _) tW (Memref.isWhole_whole _) cc0_scratch2 cc0_scratch3 cc0_scratch4 cc0_scratch5 c v2 v14 v25 v369 v370) Q) := by
  rw [k0_part14_eq_skeleton]; unfold k0_part14_skel
  simp only [Prog.lift, Prog.bind_op, Prog.bind_ret, Prog.pure_eq_ret]
  iintro ⟨#HR, Hp14, HO, Hp15⟩ Hk
  iapply (wp_waitE m K c 14 (oPts c (lf c) ((2 : Fin 4) : ℕ) (OF m)) rfl rfl (credit_any _)) $$ [$]; iintro ⟨Hw_l2, HzX14, HO⟩
  iapply (wp_waitE m K c 15 (oPts c (lf c) ((3 : Fin 4) : ℕ) (OF m)) rfl rfl (credit_any _)) $$ [$]; iintro ⟨Hw_l3, HzX15, HO⟩
  iapply (wp_done c)
  iapply Hk $$ [$]

theorem part15 (v2 v25 v377 : BitVec 32) {Q : (BitVec 32) → sProp 𝕄} :
    iprop(recs m K ∗ pend c 16 ∗ owesE c 14 ∗ pend c 17 ∗ pend c 20 ∗ pend c 21)
      ⊢ iprop((∀ w : BitVec 32, (oPts c (rt c) ((0 : Fin 4) : ℕ) (OF m) ∗ zX c 16 ∗ oPts c (rt c) ((1 : Fin 4) : ℕ) (OF m) ∗ zX c 17 ∗ oPts c (dg c) ((0 : Fin 4) : ℕ) (OF m) ∗ zX c 20 ∗ oPts c (dg c) ((1 : Fin 4) : ℕ) (OF m) ∗ zX c 21 ∗ owesE c 14) -∗ Q w) -∗ WP c (k0_part15 (F := F) aW (Memref.isWhole_whole _) bW (Memref.isWhole_whole _) oW (Memref.isWhole_whole _) cW (Memref.isWhole_whole _) tW (Memref.isWhole_whole _) cc0_scratch2 cc0_scratch3 cc0_scratch4 cc0_scratch5 c v2 v25 v377) Q) := by
  rw [k0_part15_eq_skeleton]; unfold k0_part15_skel
  simp only [Prog.lift, Prog.bind_op, Prog.bind_ret, Prog.pure_eq_ret]
  iintro ⟨#HR, Hp16, HO, Hp17, Hp20, Hp21⟩ Hk
  iapply (wp_waitE m K c 16 (oPts c (rt c) ((0 : Fin 4) : ℕ) (OF m)) rfl rfl (credit_any _)) $$ [$]; iintro ⟨Hw_r0, HzX16, HO⟩
  iapply (wp_waitE m K c 17 (oPts c (rt c) ((1 : Fin 4) : ℕ) (OF m)) rfl rfl (credit_any _)) $$ [$]; iintro ⟨Hw_r1, HzX17, HO⟩
  iapply (wp_waitE m K c 20 (oPts c (dg c) ((0 : Fin 4) : ℕ) (OF m)) rfl rfl (credit_any _)) $$ [$]; iintro ⟨Hw_g0, HzX20, HO⟩
  iapply (wp_waitE m K c 21 (oPts c (dg c) ((1 : Fin 4) : ℕ) (OF m)) rfl rfl (credit_any _)) $$ [$]; iintro ⟨Hw_g1, HzX21, HO⟩
  iapply (wp_done c)
  iapply Hk $$ [$]

theorem part16 (v2 v377 v426 : BitVec 32) {Q : PUnit → sProp 𝕄} :
    iprop(recs m K ∗ pend c 22 ∗ owesE c 14 ∗ pend c 23 ∗ copying m c 0 ∗ copying m c 1)
      ⊢ iprop(((oPts c (dg c) ((2 : Fin 4) : ℕ) (OF m) ∗ zX c 22 ∗ oPts c (dg c) ((3 : Fin 4) : ℕ) (OF m) ∗ zX c 23 ∗ oPts c c ((0 : Fin 4) : ℕ) (OF m) ∗ cPts m c ((0 : Fin 4) : ℕ) fullShare.left ∗ zC c 0 ∗ oPts c c ((1 : Fin 4) : ℕ) (OF m) ∗ cPts m c ((1 : Fin 4) : ℕ) fullShare.left ∗ zC c 1 ∗ owesE c 14) -∗ Q ⟨⟩) -∗ WP c (k0_part16 (F := F) aW (Memref.isWhole_whole _) bW (Memref.isWhole_whole _) oW (Memref.isWhole_whole _) cW (Memref.isWhole_whole _) tW (Memref.isWhole_whole _) cc0_scratch2 cc0_scratch3 cc0_scratch4 cc0_scratch5 c v2 v377 v426) Q) := by
  rw [k0_part16_eq_skeleton]; unfold k0_part16_skel
  simp only [Prog.lift, Prog.bind_op, Prog.bind_ret, Prog.pure_eq_ret]
  iintro ⟨#HR, Hp22, HO, Hp23, Hcp0, Hcp1⟩ Hk
  iapply (wp_waitE m K c 22 (oPts c (dg c) ((2 : Fin 4) : ℕ) (OF m)) rfl rfl (credit_any _)) $$ [$]; iintro ⟨Hw_g2, HzX22, HO⟩
  iapply (wp_waitE m K c 23 (oPts c (dg c) ((3 : Fin 4) : ℕ) (OF m)) rfl rfl (credit_any _)) $$ [$]; iintro ⟨Hw_g3, HzX23, HO⟩
  iapply (wp_copyWait m c 0 (oM_of c 0 (k0_off1_eq c 0)) rfl) $$ [$]; iintro ⟨Hw_c0, HcL0, HzC0, HO⟩
  iapply (wp_copyWait m c 1 (oM_of c 1 (k0_off1_eq c 1)) rfl) $$ [$]; iintro ⟨Hw_c1, HcL1, HzC1, HO⟩
  iapply (wp_done c)
  iapply Hk $$ [$]

theorem part17 {Q : PUnit → sProp 𝕄} :
    iprop(recs m K ∗ copying m c 2 ∗ owesE c 14 ∗ copying m c 3 ∗ pend c 0 ∗ pend c 1 ∗ pend c 2 ∗ pend c 3)
      ⊢ iprop(((oPts c c ((2 : Fin 4) : ℕ) (OF m) ∗ cPts m c ((2 : Fin 4) : ℕ) fullShare.left ∗ zC c 2 ∗ oPts c c ((3 : Fin 4) : ℕ) (OF m) ∗ cPts m c ((3 : Fin 4) : ℕ) fullShare.left ∗ zC c 3 ∗ cPts m c ((0 : Fin 4) : ℕ) (shr ((0 : Fin 12) : ℕ)) ∗ zX c 0 ∗ cPts m c ((0 : Fin 4) : ℕ) (shr ((1 : Fin 12) : ℕ)) ∗ zX c 1 ∗ cPts m c ((1 : Fin 4) : ℕ) (shr ((2 : Fin 12) : ℕ)) ∗ zX c 2 ∗ cPts m c ((1 : Fin 4) : ℕ) (shr ((3 : Fin 12) : ℕ)) ∗ zX c 3 ∗ owesE c 14) -∗ Q ⟨⟩) -∗ WP c (k0_part17 (F := F) aW (Memref.isWhole_whole _) bW (Memref.isWhole_whole _) oW (Memref.isWhole_whole _) cW (Memref.isWhole_whole _) tW (Memref.isWhole_whole _) cc0_scratch2 cc0_scratch3 cc0_scratch4 cc0_scratch5 c) Q) := by
  rw [k0_part17_eq_skeleton]; unfold k0_part17_skel
  simp only [Prog.lift, Prog.bind_op, Prog.bind_ret, Prog.pure_eq_ret]
  iintro ⟨#HR, Hcp2, HO, Hcp3, Hp0, Hp1, Hp2, Hp3⟩ Hk
  iapply (wp_copyWait m c 2 (oM_of c 2 (k0_off1_eq c 2)) rfl) $$ [$]; iintro ⟨Hw_c2, HcL2, HzC2, HO⟩
  iapply (wp_copyWait m c 3 (oM_of c 3 (k0_off1_eq c 3)) rfl) $$ [$]; iintro ⟨Hw_c3, HcL3, HzC3, HO⟩
  iapply (wp_waitE m K c 0 (cPts m c ((0 : Fin 4) : ℕ) (shr ((0 : Fin 12) : ℕ))) rfl rfl (credit_any _)) $$ [$]; iintro ⟨HcS0, HzX0, HO⟩
  iapply (wp_waitE m K c 1 (cPts m c ((0 : Fin 4) : ℕ) (shr ((1 : Fin 12) : ℕ))) rfl rfl (credit_any _)) $$ [$]; iintro ⟨HcS1, HzX1, HO⟩
  iapply (wp_waitE m K c 2 (cPts m c ((1 : Fin 4) : ℕ) (shr ((2 : Fin 12) : ℕ))) rfl rfl (credit_any _)) $$ [$]; iintro ⟨HcS2, HzX2, HO⟩
  iapply (wp_waitE m K c 3 (cPts m c ((1 : Fin 4) : ℕ) (shr ((3 : Fin 12) : ℕ))) rfl rfl (credit_any _)) $$ [$]; iintro ⟨HcS3, HzX3, HO⟩
  iapply (wp_done c)
  iapply Hk $$ [$]

theorem part18 {Q : PUnit → sProp 𝕄} :
    iprop(recs m K ∗ pend c 4 ∗ owesE c 14 ∗ pend c 5 ∗ pend c 6 ∗ pend c 7 ∗ pend c 8 ∗ pend c 9)
      ⊢ iprop(((cPts m c ((2 : Fin 4) : ℕ) (shr ((4 : Fin 12) : ℕ)) ∗ zX c 4 ∗ cPts m c ((2 : Fin 4) : ℕ) (shr ((5 : Fin 12) : ℕ)) ∗ zX c 5 ∗ cPts m c ((3 : Fin 4) : ℕ) (shr ((6 : Fin 12) : ℕ)) ∗ zX c 6 ∗ cPts m c ((3 : Fin 4) : ℕ) (shr ((7 : Fin 12) : ℕ)) ∗ zX c 7 ∗ oPts c (lf c) ((0 : Fin 4) : ℕ) (OF m) ∗ zX c 8 ∗ oPts c (lf c) ((1 : Fin 4) : ℕ) (OF m) ∗ zX c 9 ∗ owesE c 14) -∗ Q ⟨⟩) -∗ WP c (k0_part18 (F := F) aW (Memref.isWhole_whole _) bW (Memref.isWhole_whole _) oW (Memref.isWhole_whole _) cW (Memref.isWhole_whole _) tW (Memref.isWhole_whole _) cc0_scratch2 cc0_scratch3 cc0_scratch4 cc0_scratch5 c) Q) := by
  rw [k0_part18_eq_skeleton]; unfold k0_part18_skel
  simp only [Prog.lift, Prog.bind_op, Prog.bind_ret, Prog.pure_eq_ret]
  iintro ⟨#HR, Hp4, HO, Hp5, Hp6, Hp7, Hp8, Hp9⟩ Hk
  iapply (wp_waitE m K c 4 (cPts m c ((2 : Fin 4) : ℕ) (shr ((4 : Fin 12) : ℕ))) rfl rfl (credit_any _)) $$ [$]; iintro ⟨HcS4, HzX4, HO⟩
  iapply (wp_waitE m K c 5 (cPts m c ((2 : Fin 4) : ℕ) (shr ((5 : Fin 12) : ℕ))) rfl rfl (credit_any _)) $$ [$]; iintro ⟨HcS5, HzX5, HO⟩
  iapply (wp_waitE m K c 6 (cPts m c ((3 : Fin 4) : ℕ) (shr ((6 : Fin 12) : ℕ))) rfl rfl (credit_any _)) $$ [$]; iintro ⟨HcS6, HzX6, HO⟩
  iapply (wp_waitE m K c 7 (cPts m c ((3 : Fin 4) : ℕ) (shr ((7 : Fin 12) : ℕ))) rfl rfl (credit_any _)) $$ [$]; iintro ⟨HcS7, HzX7, HO⟩
  iapply (wp_waitE m K c 8 (oPts c (lf c) ((0 : Fin 4) : ℕ) (OF m)) rfl rfl (credit_any _)) $$ [$]; iintro ⟨Hw_l0, HzX8, HO⟩
  iapply (wp_waitE m K c 9 (oPts c (lf c) ((1 : Fin 4) : ℕ) (OF m)) rfl rfl (credit_any _)) $$ [$]; iintro ⟨Hw_l1, HzX9, HO⟩
  iapply (wp_done c)
  iapply Hk $$ [$]

end Cert.KernelIdeal.Ring
-- ==== Proof.KernelIdeal.Body.lean ====
/-
# The body

The parts of the body in order: from a device's accounts and memory to the whole product in its result.
-/
module

public import proofs.«01_k».proof.Proof.KernelIdeal.Parts

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 25 → ℕ) (c : Dev nD)

theorem wp_seq {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p.bind k) Q := Entails.of_eq (wp_bind _ _ _ _ _ _).symm

/-- What the body takes of device `c`'s semaphore accounts: the barrier's duties and position, the sends, the receives. -/
def accounts : sProp 𝕄 :=
  iprop((dutyTok ER (barCell (lf c)) 0 false ∗ dutyTok ER (barCell (rt c)) 0 true ∗ atPos ER (barCell c) 0 ∅ 0 ∗ cred (tallyAt (barCell c) () 2))
    ∗ (tok c 0 ∗ tok c 1 ∗ tok c 2 ∗ tok c 3 ∗ tok c 4 ∗ tok c 5 ∗ tok c 6 ∗ tok c 7 ∗ tok c 8 ∗ tok c 9 ∗ tok c 10 ∗ tok c 11)
    ∗ (pend c 12 ∗ pend c 13 ∗ pend c 14 ∗ pend c 15 ∗ pend c 16 ∗ pend c 17 ∗ pend c 18 ∗ pend c 19 ∗ pend c 20 ∗ pend c 21 ∗ pend c 22 ∗ pend c 23))
/-- The memory the body takes, piece by piece: the tiles of `A`, the slots, the tiles of the product buffer, the result. -/
def memIn : sProp 𝕄 :=
  iprop((aPts m c ((0 : Fin 8) : ℕ) ∗ aPts m c ((1 : Fin 8) : ℕ) ∗ aPts m c ((2 : Fin 8) : ℕ) ∗ aPts m c ((3 : Fin 8) : ℕ) ∗ aPts m c ((4 : Fin 8) : ℕ) ∗ aPts m c ((5 : Fin 8) : ℕ) ∗ aPts m c ((6 : Fin 8) : ℕ) ∗ aPts m c ((7 : Fin 8) : ℕ))
    ∗ (sAny c ((0 : Fin 2) : ℕ) ∗ sAny c ((1 : Fin 2) : ℕ))
    ∗ (tAny c ((0 : Fin 8) : ℕ) ∗ tAny c ((1 : Fin 8) : ℕ) ∗ tAny c ((2 : Fin 8) : ℕ) ∗ tAny c ((3 : Fin 8) : ℕ) ∗ tAny c ((4 : Fin 8) : ℕ) ∗ tAny c ((5 : Fin 8) : ℕ) ∗ tAny c ((6 : Fin 8) : ℕ) ∗ tAny c ((7 : Fin 8) : ℕ))
    ∗ (oAny c c ((0 : Fin 4) : ℕ) ∗ oAny c c ((1 : Fin 4) : ℕ) ∗ oAny c c ((2 : Fin 4) : ℕ) ∗ oAny c c ((3 : Fin 4) : ℕ) ∗ oAny c (lf c) ((0 : Fin 4) : ℕ) ∗ oAny c (lf c) ((1 : Fin 4) : ℕ) ∗ oAny c (lf c) ((2 : Fin 4) : ℕ) ∗ oAny c (lf c) ((3 : Fin 4) : ℕ) ∗ oAny c (rt c) ((0 : Fin 4) : ℕ) ∗ oAny c (rt c) ((1 : Fin 4) : ℕ) ∗ oAny c (rt c) ((2 : Fin 4) : ℕ) ∗ oAny c (rt c) ((3 : Fin 4) : ℕ) ∗ oAny c (dg c) ((0 : Fin 4) : ℕ) ∗ oAny c (dg c) ((1 : Fin 4) : ℕ) ∗ oAny c (dg c) ((2 : Fin 4) : ℕ) ∗ oAny c (dg c) ((3 : Fin 4) : ℕ)))
/-- The memory it leaves: the result's sixteen pieces hold the products of all four devices. -/
def memOut : sProp 𝕄 :=
  iprop((aPts m c ((0 : Fin 8) : ℕ) ∗ aPts m c ((1 : Fin 8) : ℕ) ∗ aPts m c ((2 : Fin 8) : ℕ) ∗ aPts m c ((3 : Fin 8) : ℕ) ∗ aPts m c ((4 : Fin 8) : ℕ) ∗ aPts m c ((5 : Fin 8) : ℕ) ∗ aPts m c ((6 : Fin 8) : ℕ) ∗ aPts m c ((7 : Fin 8) : ℕ))
    ∗ (sAny c ((0 : Fin 2) : ℕ) ∗ sAny c ((1 : Fin 2) : ℕ))
    ∗ (cPts m c ((0 : Fin 4) : ℕ) fullShare.left ∗ cPts m c ((0 : Fin 4) : ℕ) (shr ((0 : Fin 12) : ℕ)) ∗ cPts m c ((0 : Fin 4) : ℕ) (shr ((1 : Fin 12) : ℕ)) ∗ cPts m c ((1 : Fin 4) : ℕ) fullShare.left ∗ cPts m c ((1 : Fin 4) : ℕ) (shr ((2 : Fin 12) : ℕ)) ∗ cPts m c ((1 : Fin 4) : ℕ) (shr ((3 : Fin 12) : ℕ)) ∗ cPts m c ((2 : Fin 4) : ℕ) fullShare.left ∗ cPts m c ((2 : Fin 4) : ℕ) (shr ((4 : Fin 12) : ℕ)) ∗ cPts m c ((2 : Fin 4) : ℕ) (shr ((5 : Fin 12) : ℕ)) ∗ cPts m c ((3 : Fin 4) : ℕ) fullShare.left ∗ cPts m c ((3 : Fin 4) : ℕ) (shr ((6 : Fin 12) : ℕ)) ∗ cPts m c ((3 : Fin 4) : ℕ) (shr ((7 : Fin 12) : ℕ)))
    ∗ (oPts c c ((0 : Fin 4) : ℕ) (OF m) ∗ oPts c c ((1 : Fin 4) : ℕ) (OF m) ∗ oPts c c ((2 : Fin 4) : ℕ) (OF m) ∗ oPts c c ((3 : Fin 4) : ℕ) (OF m) ∗ oPts c (lf c) ((0 : Fin 4) : ℕ) (OF m) ∗ oPts c (lf c) ((1 : Fin 4) : ℕ) (OF m) ∗ oPts c (lf c) ((2 : Fin 4) : ℕ) (OF m) ∗ oPts c (lf c) ((3 : Fin 4) : ℕ) (OF m) ∗ oPts c (rt c) ((0 : Fin 4) : ℕ) (OF m) ∗ oPts c (rt c) ((1 : Fin 4) : ℕ) (OF m) ∗ oPts c (rt c) ((2 : Fin 4) : ℕ) (OF m) ∗ oPts c (rt c) ((3 : Fin 4) : ℕ) (OF m) ∗ oPts c (dg c) ((0 : Fin 4) : ℕ) (OF m) ∗ oPts c (dg c) ((1 : Fin 4) : ℕ) (OF m) ∗ oPts c (dg c) ((2 : Fin 4) : ℕ) (OF m) ∗ oPts c (dg c) ((3 : Fin 4) : ℕ) (OF m)))
/-- The semaphores the core itself keeps, at zero. -/
def ownZ : sProp 𝕄 := iprop((zC c 0 ∗ zC c 1 ∗ zC c 2 ∗ zC c 3) ∗ (zS c 0 ∗ zS c 1))
/-- The semaphores of the transfer cells, at zero again. -/
def cellZ : sProp 𝕄 := iprop(zX c 0 ∗ zX c 1 ∗ zX c 2 ∗ zX c 3 ∗ zX c 4 ∗ zX c 5 ∗ zX c 6 ∗ zX c 7 ∗ zX c 8 ∗ zX c 9 ∗ zX c 10 ∗ zX c 11 ∗ zX c 12 ∗ zX c 13 ∗ zX c 14 ∗ zX c 15 ∗ zX c 16 ∗ zX c 17 ∗ zX c 18 ∗ zX c 19 ∗ zX c 20 ∗ zX c 21 ∗ zX c 22 ∗ zX c 23)

set_option maxHeartbeats 4000000 in
/-- The body on device `c`: from its accounts and memory, it terminates with the whole product in its result. -/
theorem sound_body (Q : PUnit → sProp 𝕄) :
    iprop((recs m K ∗ accounts c ∗ memIn m c ∗ ownZ c ∗ bPts m c ∗ owesE c 0)
        ∗ ((memOut m c ∗ ownZ c ∗ cellZ c ∗ semVal (barCell c) 0 ∗ bPts m c ∗ owesE c 14) -∗ Q ⟨⟩))
      ⊢ WP c (cc0_body (F := F) aW (Memref.isWhole_whole _) bW (Memref.isWhole_whole _) oW (Memref.isWhole_whole _) cW (Memref.isWhole_whole _) tW (Memref.isWhole_whole _) cc0_scratch2 cc0_scratch3 cc0_scratch4 cc0_scratch5) Q := by
  rw [cc0_body_eq_skeleton]; unfold cc0_body_skel
  simp only [Prog.lift, Prog.bind_op, Prog.bind_ret, Prog.pure_eq_ret]
  unfold accounts memIn ownZ
  iintro ⟨⟨#HR, ⟨⟨Ht1, Ht2, Hat, Hc⟩, ⟨Hk0, Hk1, Hk2, Hk3, Hk4, Hk5, Hk6, Hk7, Hk8, Hk9, Hk10, Hk11⟩, ⟨Hp12, Hp13, Hp14, Hp15, Hp16, Hp17, Hp18, Hp19, Hp20, Hp21, Hp22, Hp23⟩⟩, ⟨⟨Ha0, Ha1, Ha2, Ha3, Ha4, Ha5, Ha6, Ha7⟩, ⟨Hs0, Hs1⟩, ⟨Ht0, Ht1, Ht2, Ht3, Ht4, Ht5, Ht6, Ht7⟩, ⟨Ho_cc0, Ho_cc1, Ho_cc2, Ho_cc3, Ho_cl0, Ho_cl1, Ho_cl2, Ho_cl3, Ho_cr0, Ho_cr1, Ho_cr2, Ho_cr3, Ho_cg0, Ho_cg1, Ho_cg2, Ho_cg3⟩⟩, ⟨⟨HzC0, HzC1, HzC2, HzC3⟩, ⟨HzS0, HzS1⟩⟩, Hb, HO⟩, Hk⟩
  ihave HsL : (sixPts c (lf c) (dg c) 0 1 : sProp 𝕄) $$ [Ho_cl0 Ho_cl1 Ho_cl2 Ho_cl3 Ho_cg0 Ho_cg1]
  · unfold sixPts; iframe Ho_cl0 Ho_cl1 Ho_cl2 Ho_cl3 Ho_cg0 Ho_cg1
  ihave HsR : (sixPts c (rt c) (dg c) 2 3 : sProp 𝕄) $$ [Ho_cr0 Ho_cr1 Ho_cr2 Ho_cr3 Ho_cg2 Ho_cg3]
  · unfold sixPts; iframe Ho_cr0 Ho_cr1 Ho_cr2 Ho_cr3 Ho_cg2 Ho_cg3
  iapply (wp_seq c); iapply (part1 m K c) $$ [$]; iintro %v2 %v14 %v25 ⟨HF, HT, HzB, HO⟩
  unfold barF barT sixPts
  icases HF with ⟨Ho_rc0, Ho_rc1, Ho_rc2, Ho_rc3, Ho_rl0, Ho_rl1⟩
  icases HT with ⟨Ho_lc0, Ho_lc1, Ho_lc2, Ho_lc3, Ho_lr2, Ho_lr3⟩
  iapply (wp_seq c); iapply (part2 m K c) $$ [$]; iintro ⟨Hf1, Ha0, HzS0, HO, Hs0, Hb, Ht0⟩
  iapply (wp_seq c); iapply (part3 m K c v2 v25) $$ [$]; iintro ⟨Hf0, Ha1, HzS1, HO, Hs1, Hb, HcS0, HcS1, Hcp0⟩
  iapply (wp_seq c); iapply (part4 m K c v2 v14) $$ [$]; iintro ⟨Hp0, Hp1, Hf1, Ha2, HzS0, HO, Hs0⟩
  iapply (wp_seq c); iapply (part5 m K c v2) $$ [$]; iintro ⟨Ht2, Hf0, Ha3, HzS1, HO, Hs1, Hb, Ht3⟩
  iapply (wp_seq c); iapply (part6 m K c v2 v14 v25) $$ [$]; iintro ⟨Hcp1, Hp2, Hp3, HO, Hf1⟩
  iapply (wp_seq c); iapply (part7 m K c) $$ [$]; iintro ⟨Ha4, Ht4, Hf0, Ha5, HzS1, HO, Hs1, Hb⟩
  iapply (wp_seq c); iapply (part8 m K c v2 v14 v25) $$ [$]; iintro ⟨HcS5, Hcp2, Hp4, HO⟩
  iapply (wp_seq c); iapply (part9 m K c) $$ [$]; iintro ⟨Hp5, Ha6, HzS0, Hs0, Hb, Ht6, Hh1, Ha7, HzS1, HO⟩
  iapply (wp_seq c); iapply (part10 m K c v2 v14 v25) $$ [$]; iintro ⟨Hs1, Hb, HcS7, Hcp3, Hp6, HO⟩
  iapply (wp_seq c); iapply (part11 m K c v2 v14 v25) $$ [$]; iintro ⟨Hp7, HzX12, Hp8, HO⟩
  iapply (wp_seq c); iapply (part12 m K c v2 v14 v25) $$ [$]; iintro %v339 ⟨HzX13, Hp9, Hw_r2, HzX18, HO⟩
  iapply (wp_seq c); iapply (part13 m K c v2 v14 v25 v339) $$ [$]; iintro %v369 %v370 ⟨Hp10, HzX19, Hp11, HO⟩
  iapply (wp_seq c); iapply (part14 m K c v2 v14 v25 v369 v370) $$ [$]; iintro %v377 ⟨Hw_l2, HzX14, Hw_l3, HzX15, HO⟩
  iapply (wp_seq c); iapply (part15 m K c v2 v25 v377) $$ [$]; iintro %v426 ⟨Hw_r0, HzX16, Hw_r1, HzX17, Hw_g0, HzX20, Hw_g1, HzX21, HO⟩
  iapply (wp_seq c); iapply (part16 m K c v2 v377 v426) $$ [$]; iintro ⟨Hw_g2, HzX22, Hw_g3, HzX23, Hw_c0, HcL0, HzC0, Hw_c1, HcL1, HzC1, HO⟩
  iapply (wp_seq c); iapply (part17 m K c) $$ [$]; iintro ⟨Hw_c2, HcL2, HzC2, Hw_c3, HcL3, HzC3, HcS0, HzX0, HcS1, HzX1, HcS2, HzX2, HcS3, HzX3, HO⟩
  iapply (wp_seq c); iapply (part18 m K c) $$ [$]; iintro ⟨HcS4, HzX4, HcS5, HzX5, HcS6, HzX6, HcS7, HzX7, Hw_l0, HzX8, Hw_l1, HzX9, HO⟩
  iapply (wp_waitE m K c 10 (oPts c (rt c) ((2 : Fin 4) : ℕ) (OF m)) rfl rfl (credit_any _)) $$ [$]; iintro ⟨Hw_r2, HzX10, HO⟩
  iapply (wp_waitE m K c 11 (oPts c (rt c) ((3 : Fin 4) : ℕ) (OF m)) rfl rfl (credit_any _)) $$ [$]; iintro ⟨Hw_r3, HzX11, HO⟩
  iapply (wp_done c)
  iapply Hk
  unfold memOut cellZ
  isplitl [Ha0 Ha1 Ha2 Ha3 Ha4 Ha5 Ha6 Ha7 Hs0 Hs1 HcL0 HcS0 HcS1 HcL1 HcS2 HcS3 HcL2 HcS4 HcS5 HcL3 HcS6 HcS7 Hw_c0 Hw_c1 Hw_c2 Hw_c3 Hw_l0 Hw_l1 Hw_l2 Hw_l3 Hw_r0 Hw_r1 Hw_r2 Hw_r3 Hw_g0 Hw_g1 Hw_g2 Hw_g3]
  · isplitl [Ha0 Ha1 Ha2 Ha3 Ha4 Ha5 Ha6 Ha7]; · iframe Ha0 Ha1 Ha2 Ha3 Ha4 Ha5 Ha6 Ha7
    isplitl [Hs0 Hs1]; · iframe Hs0 Hs1
    isplitl [HcL0 HcS0 HcS1 HcL1 HcS2 HcS3 HcL2 HcS4 HcS5 HcL3 HcS6 HcS7]; · iframe HcL0 HcS0 HcS1 HcL1 HcS2 HcS3 HcL2 HcS4 HcS5 HcL3 HcS6 HcS7
    iframe Hw_c0 Hw_c1 Hw_c2 Hw_c3 Hw_l0 Hw_l1 Hw_l2 Hw_l3 Hw_r0 Hw_r1 Hw_r2 Hw_r3 Hw_g0 Hw_g1 Hw_g2 Hw_g3
  isplitl [HzC0 HzC1 HzC2 HzC3 HzS0 HzS1]
  · isplitl [HzC0 HzC1 HzC2 HzC3]; · iframe HzC0 HzC1 HzC2 HzC3
    iframe HzS0 HzS1
  isplitl [HzX0 HzX1 HzX2 HzX3 HzX4 HzX5 HzX6 HzX7 HzX8 HzX9 HzX10 HzX11 HzX12 HzX13 HzX14 HzX15 HzX16 HzX17 HzX18 HzX19 HzX20 HzX21 HzX22 HzX23]; · iframe HzX0 HzX1 HzX2 HzX3 HzX4 HzX5 HzX6 HzX7 HzX8 HzX9 HzX10 HzX11 HzX12 HzX13 HzX14 HzX15 HzX16 HzX17 HzX18 HzX19 HzX20 HzX21 HzX22 HzX23
  isplitl [HzB]; · iexact HzB
  isplitl [Hb]; · iexact Hb
  iexact HO

end Cert.KernelIdeal.Ring
-- ==== Proof.KernelIdeal.Memory.lean ====
/-
# Whole buffers and pieces

The buffers a device starts with, split into the pieces the body takes, and the pieces it leaves, joined again.
-/
module

public import proofs.«01_k».proof.Proof.KernelIdeal.Body
public import Idealize.ShloMosaic.Lib.Ring

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-! ## Small families written out -/

theorem fin2 (Φ : Fin 2 → sProp 𝕄) : bigSep Finset.univ Φ = iprop(Φ 0 ∗ Φ 1) :=
  bigSep_univ_eq_bigSepL [0, 1] (by decide) (by decide) Φ
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-! ## Whole buffers and their pieces -/

/-- Device `c`'s block of `A`, whole. -/
def aWhole : sProp 𝕄 := ((c : Thread nD τ).loc main_arg0) ↦{fullShare} m ((c : Thread nD τ).loc main_arg0)
/-- The result on device `c`, whole, holding `f`. -/
def oWhole (f : Buf (Elt F) ((c : Thread nD τ).loc main_v1)) : sProp 𝕄 := ((c : Thread nD τ).loc main_v1) ↦{fullShare} f
/-- The product buffer, whole, of any contents. -/
def cWhole : sProp 𝕄 := iprop(∃ f : Buf (Elt F) ((c : Thread nD τ).loc cc0_scratch0), ((c : Thread nD τ).loc cc0_scratch0) ↦{fullShare} f)
/-- The tile buffer, whole, of any contents. -/
def tWhole : sProp 𝕄 := iprop(∃ f : Buf (Elt F) ((c : Thread nD τ).loc cc0_scratch1), ((c : Thread nD τ).loc cc0_scratch1) ↦{fullShare} f)

theorem aWhole_eq : aWhole m c = bigSep Finset.univ fun t : Fin 8 => aPts m c t.val := by
  unfold aWhole aPts
  exact Idealize.ShloMosaic.Ring.pointsTo_blocks (ℓ := (c : Thread nD τ).loc main_arg0) (fun t : Fin 8 => rows (s := S4096x2048) 0 (512 * t.val) 512) (rows_blocks_disjoint 0 512 8)
    (rows_cover (s := S4096x2048) 0 512 8 rfl (by decide)) _

/-- The sixteen pieces of the result: device by device, piece by piece. -/
abbrev oBlk (x : Dev nD × Fin 4) : Finset S16384x4096.Idx := rows (s := S16384x4096) 0 (4096 * x.1.val + 1024 * x.2.val) 1024
theorem oBlk_disjoint (x y : Dev nD × Fin 4) (h : x ≠ y) : Disjoint (oBlk x) (oBlk y) := by
  apply rows_disjoint
  have h' : 4 * x.1.val + x.2.val ≠ 4 * y.1.val + y.2.val := fun e => h (Prod.ext (Fin.ext (by omega)) (Fin.ext (by omega)))
  omega
theorem oBlk_cover : (Finset.univ : Finset (Dev nD × Fin 4)).biUnion oBlk = Finset.univ := by
  ext i
  rw [Finset.mem_biUnion]
  refine ⟨fun _ => Finset.mem_univ _, fun _ => ?_⟩
  have hi : (i 0 : ℕ) < 16384 := (i 0).isLt
  refine ⟨(⟨(i 0 : ℕ) / 4096, by show _ < 4; omega⟩, ⟨(i 0 : ℕ) % 4096 / 1024, by omega⟩), Finset.mem_univ _, ?_⟩
  rw [mem_rows]
  dsimp only
  omega
theorem oWhole_eq (f : Buf (Elt F) ((c : Thread nD τ).loc main_v1)) :
    oWhole c f = bigSep Finset.univ fun x : Dev nD × Fin 4 => oPts c x.1 x.2.val f := by
  unfold oWhole oPts
  exact Idealize.ShloMosaic.Ring.pointsTo_blocks (ℓ := (c : Thread nD τ).loc main_v1) oBlk oBlk_disjoint oBlk_cover f

/-- The sixteen pieces in the order device `c` meets them: its own, its left, its right neighbour's, the opposite device's. -/
abbrev oList : List (Dev nD × Fin 4) := [(c, 0), (c, 1), (c, 2), (c, 3), ((lf c), 0), ((lf c), 1), ((lf c), 2), ((lf c), 3), ((rt c), 0), ((rt c), 1), ((rt c), 2), ((rt c), 3), ((dg c), 0), ((dg c), 1), ((dg c), 2), ((dg c), 3)]
theorem oList_univ : (Finset.univ : Finset (Dev nD × Fin 4)) = (oList c).toFinset := by revert c; decide
theorem oList_nodup : (oList c).Nodup := by revert c; decide
theorem oPieces (f : Buf (Elt F) ((c : Thread nD τ).loc main_v1)) :
    oWhole c f = iprop(oPts c c ((0 : Fin 4) : ℕ) f ∗ oPts c c ((1 : Fin 4) : ℕ) f ∗ oPts c c ((2 : Fin 4) : ℕ) f ∗ oPts c c ((3 : Fin 4) : ℕ) f ∗ oPts c (lf c) ((0 : Fin 4) : ℕ) f ∗ oPts c (lf c) ((1 : Fin 4) : ℕ) f ∗ oPts c (lf c) ((2 : Fin 4) : ℕ) f ∗ oPts c (lf c) ((3 : Fin 4) : ℕ) f ∗ oPts c (rt c) ((0 : Fin 4) : ℕ) f ∗ oPts c (rt c) ((1 : Fin 4) : ℕ) f ∗ oPts c (rt c) ((2 : Fin 4) : ℕ) f ∗ oPts c (rt c) ((3 : Fin 4) : ℕ) f ∗ oPts c (dg c) ((0 : Fin 4) : ℕ) f ∗ oPts c (dg c) ((1 : Fin 4) : ℕ) f ∗ oPts c (dg c) ((2 : Fin 4) : ℕ) f ∗ oPts c (dg c) ((3 : Fin 4) : ℕ) f) := by
  rw [oWhole_eq, bigSep_univ_eq_bigSepL (oList c) (oList_univ c) (oList_nodup c)]; rfl

theorem oAny_intro (e d : Dev nD) (p : ℕ) (f : Buf (Elt F) ((e : Thread nD τ).loc main_v1)) : oPts e d p f ⊢ oAny e d p := by
  unfold oAny; iintro H; iexists f; iexact H

theorem aPieces : aWhole m c = iprop(aPts m c ((0 : Fin 8) : ℕ) ∗ aPts m c ((1 : Fin 8) : ℕ) ∗ aPts m c ((2 : Fin 8) : ℕ) ∗ aPts m c ((3 : Fin 8) : ℕ) ∗ aPts m c ((4 : Fin 8) : ℕ) ∗ aPts m c ((5 : Fin 8) : ℕ) ∗ aPts m c ((6 : Fin 8) : ℕ) ∗ aPts m c ((7 : Fin 8) : ℕ)) := by rw [aWhole_eq, fin8]

theorem tAny_intro (t : ℕ) (f : Buf (Elt F) ((c : Thread nD τ).loc cc0_scratch0)) : tPts c t f ⊢ tAny c t := by
  unfold tAny; iintro H; iexists f; iexact H
theorem sAny_intro (s : ℕ) (f : Buf (Elt F) ((c : Thread nD τ).loc cc0_scratch1)) : sPts c s f ⊢ sAny c s := by
  unfold sAny; iintro H; iexists f; iexact H

theorem tPieces : cWhole (F := F) c ⊢ iprop(tAny c ((0 : Fin 8) : ℕ) ∗ tAny c ((1 : Fin 8) : ℕ) ∗ tAny c ((2 : Fin 8) : ℕ) ∗ tAny c ((3 : Fin 8) : ℕ) ∗ tAny c ((4 : Fin 8) : ℕ) ∗ tAny c ((5 : Fin 8) : ℕ) ∗ tAny c ((6 : Fin 8) : ℕ) ∗ tAny c ((7 : Fin 8) : ℕ)) := by
  unfold cWhole
  iintro ⟨%f, H⟩
  ihave H := (Entails.of_eq (Idealize.ShloMosaic.Ring.pointsTo_blocks (ℓ := (c : Thread nD τ).loc cc0_scratch0) (Ix := Unit) (Name := ℕ) (U := UU) (Lvl := ℕ) (q := fullShare) (fun t : Fin 8 => rows (s := S4096x4096) 0 (512 * t.val) 512) (rows_blocks_disjoint 0 512 8)
    (rows_cover (s := S4096x4096) 0 512 8 rfl (by decide)) f)) $$ H
  rw [← fin8 fun t : Fin 8 => tAny (F := F) c t.val]
  iapply (show (bigSep Finset.univ fun t : Fin 8 => ((c : Thread nD τ).loc cc0_scratch0 ↦[rows (s := S4096x4096) 0 (512 * t.val) 512]{fullShare} f : sProp 𝕄))
      ⊢ bigSep Finset.univ fun t : Fin 8 => tAny (F := F) c t.val from
    bigSep_mono fun t _ => tAny_intro c t.val f) $$ H

theorem cPieces : (bigSep Finset.univ fun p : Fin 4 => cPts m c p.val fullShare) ⊢ cWhole (F := F) c := by
  unfold cWhole cPts
  iintro H
  iexists (CF m c)
  iapply (Entails.of_eq (Idealize.ShloMosaic.Ring.pointsTo_blocks (ℓ := (c : Thread nD τ).loc cc0_scratch0) (Ix := Unit) (Name := ℕ) (U := UU) (Lvl := ℕ) (q := fullShare) (fun p : Fin 4 => rows (s := S4096x4096) 0 (1024 * p.val) 1024) (rows_blocks_disjoint 0 1024 4)
    (rows_cover (s := S4096x4096) 0 1024 4 rfl (by decide)) (CF m c)).symm) $$ H

theorem slot_disjoint (s s' : Fin 2) (h : s ≠ s') : Disjoint (rows (s := S2x512x2048) 0 s.val 1) (rows 0 s'.val 1) := by
  apply rows_disjoint
  have : s.val ≠ s'.val := fun e => h (Fin.ext e)
  omega
theorem slot_cover : (Finset.univ : Finset (Fin 2)).biUnion (fun s => rows (s := S2x512x2048) 0 s.val 1) = Finset.univ := by
  have := rows_cover (s := S2x512x2048) 0 1 2 rfl (by decide)
  simpa only [Nat.one_mul] using this

theorem sPieces : tWhole (F := F) c ⊢ iprop(sAny c ((0 : Fin 2) : ℕ) ∗ sAny c ((1 : Fin 2) : ℕ)) := by
  unfold tWhole
  iintro ⟨%f, H⟩
  ihave H := (Entails.of_eq (Idealize.ShloMosaic.Ring.pointsTo_blocks (ℓ := (c : Thread nD τ).loc cc0_scratch1) (Ix := Unit) (Name := ℕ) (U := UU) (Lvl := ℕ) (q := fullShare) (fun s : Fin 2 => rows (s := S2x512x2048) 0 s.val 1) slot_disjoint slot_cover f)) $$ H
  rw [← fin2 fun s : Fin 2 => sAny (F := F) c s.val]
  iapply (show (bigSep Finset.univ fun s : Fin 2 => ((c : Thread nD τ).loc cc0_scratch1 ↦[rows (s := S2x512x2048) 0 s.val 1]{fullShare} f : sProp 𝕄))
      ⊢ bigSep Finset.univ fun s : Fin 2 => sAny (F := F) c s.val from
    bigSep_mono fun s _ => sAny_intro c s.val f) $$ H
include m in
theorem sJoin : iprop(sAny c ((0 : Fin 2) : ℕ) ∗ sAny c ((1 : Fin 2) : ℕ)) ⊢ tWhole (F := F) c := by
  rw [← fin2 fun s : Fin 2 => sAny (F := F) c s.val]
  unfold sAny sPts tWhole
  iintro H
  ihave H0 := (show (bigSep Finset.univ fun s : Fin 2 => iprop(∃ f, ((c : Thread nD τ).loc cc0_scratch1 ↦[rows (s := S2x512x2048) 0 s.val 1]{fullShare} f : sProp 𝕄)))
    ⊢ iprop(∃ g, ((c : Thread nD τ).loc cc0_scratch1) ↦{fullShare} g) from Idealize.ShloMosaic.Ring.pointsTo_blocks_join_exists (ℓ := (c : Thread nD τ).loc cc0_scratch1) (fun s : Fin 2 => rows (s := S2x512x2048) 0 s.val 1) slot_disjoint slot_cover (m ((c : Thread nD τ).loc cc0_scratch1))) $$ H
  iexact H0

/-- The whole buffers, split into what the body takes. -/
theorem mem_split : iprop(aWhole m c ∗ oWhole c (m ((c : Thread nD τ).loc main_v1)) ∗ cWhole (F := F) c ∗ tWhole (F := F) c) ⊢ memIn m c := by
  unfold memIn
  rw [aPieces, oPieces]
  iintro ⟨Ha, ⟨Ho_cc0, Ho_cc1, Ho_cc2, Ho_cc3, Ho_cl0, Ho_cl1, Ho_cl2, Ho_cl3, Ho_cr0, Ho_cr1, Ho_cr2, Ho_cr3, Ho_cg0, Ho_cg1, Ho_cg2, Ho_cg3⟩, Hc, Ht⟩
  isplitl [Ha]; · iexact Ha
  isplitl [Ht]; · iapply (sPieces c) $$ Ht
  isplitl [Hc]; · iapply (tPieces c) $$ Hc
  isplitl [Ho_cc0]; · iapply (oAny_intro _ _ _ _) $$ Ho_cc0
  isplitl [Ho_cc1]; · iapply (oAny_intro _ _ _ _) $$ Ho_cc1
  isplitl [Ho_cc2]; · iapply (oAny_intro _ _ _ _) $$ Ho_cc2
  isplitl [Ho_cc3]; · iapply (oAny_intro _ _ _ _) $$ Ho_cc3
  isplitl [Ho_cl0]; · iapply (oAny_intro _ _ _ _) $$ Ho_cl0
  isplitl [Ho_cl1]; · iapply (oAny_intro _ _ _ _) $$ Ho_cl1
  isplitl [Ho_cl2]; · iapply (oAny_intro _ _ _ _) $$ Ho_cl2
  isplitl [Ho_cl3]; · iapply (oAny_intro _ _ _ _) $$ Ho_cl3
  isplitl [Ho_cr0]; · iapply (oAny_intro _ _ _ _) $$ Ho_cr0
  isplitl [Ho_cr1]; · iapply (oAny_intro _ _ _ _) $$ Ho_cr1
  isplitl [Ho_cr2]; · iapply (oAny_intro _ _ _ _) $$ Ho_cr2
  isplitl [Ho_cr3]; · iapply (oAny_intro _ _ _ _) $$ Ho_cr3
  isplitl [Ho_cg0]; · iapply (oAny_intro _ _ _ _) $$ Ho_cg0
  isplitl [Ho_cg1]; · iapply (oAny_intro _ _ _ _) $$ Ho_cg1
  isplitl [Ho_cg2]; · iapply (oAny_intro _ _ _ _) $$ Ho_cg2
  iapply (oAny_intro _ _ _ _) $$ Ho_cg3

/-- What the body leaves, joined to whole buffers. -/
theorem mem_join : memOut m c ⊢ iprop(aWhole m c ∗ oWhole c (OF m) ∗ cWhole (F := F) c ∗ tWhole (F := F) c) := by
  unfold memOut
  rw [aPieces, oPieces]
  iintro ⟨Ha, Hs, ⟨HcL0, HcS0, HcS1, HcL1, HcS2, HcS3, HcL2, HcS4, HcS5, HcL3, HcS6, HcS7⟩, Ho⟩
  ihave Hp0 := (piece_join m c 0 0 1 rfl rfl) $$ [HcL0 HcS0 HcS1]
  · iframe HcL0 HcS0 HcS1
  ihave Hp1 := (piece_join m c 1 2 3 rfl rfl) $$ [HcL1 HcS2 HcS3]
  · iframe HcL1 HcS2 HcS3
  ihave Hp2 := (piece_join m c 2 4 5 rfl rfl) $$ [HcL2 HcS4 HcS5]
  · iframe HcL2 HcS4 HcS5
  ihave Hp3 := (piece_join m c 3 6 7 rfl rfl) $$ [HcL3 HcS6 HcS7]
  · iframe HcL3 HcS6 HcS7
  isplitl [Ha]; · iexact Ha
  isplitl [Ho]; · iexact Ho
  isplitl [Hp0 Hp1 Hp2 Hp3]
  · iapply (cPieces m c)
    rw [fin4]
    iframe Hp0 Hp1 Hp2 Hp3
  iapply (sJoin m c) $$ Hs

end Cert.KernelIdeal.Ring
-- ==== Proof.KernelIdeal.Oblig.lean ====
/-
# The body's obligation

What a device holds before and after its single grid point, and the body's proof in the form the launch takes.
-/
module

public import proofs.«01_k».proof.Proof.KernelIdeal.Memory

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The memory at launch: any contents, every semaphore at zero, any generator registers. -/
def s₀ : MemSt nD τ sig (Elt F) := ⟨m, fun _ => 0, ρ⟩

variable (c : Dev nD)

/-- The grid has one point. -/
theorem point (t : Fin cfg0.N) : t = t0_0 := fin_N0 t

/-- What device `c` starts from: the cells' schedule, its accounts, its local semaphores at zero, its block of `A` and its result. -/
def start : sProp 𝕄 :=
  iprop((∃ K, recs m K) ∗ accounts c ∗ ownZ c ∗ aWhole m c ∗ oWhole c (m ((c : Thread nD τ).loc main_v1)))
/-- Before the point: that, and the two scratch buffers. -/
def ΦIn : sProp 𝕄 := iprop(start m c ∗ cWhole (F := F) c ∗ tWhole (F := F) c)
/-- After the point: the block of `A` unchanged, the whole product in the result, every semaphore at zero. -/
def ΦOut : sProp 𝕄 :=
  iprop((aWhole m c ∗ oWhole c (OF m) ∗ cWhole (F := F) c ∗ tWhole (F := F) c) ∗ ownZ c ∗ cellZ c ∗ semVal (barCell c) 0)

/-- The proof's data for the one region: `B` is staged and left as it is; the device owes its dues before the point and nothing after it. -/
def dats (_ : Fin 1) (c : Dev nD) : Dat τ (Elt F) Unit ℕ UU ℕ cfg0 c where
  A w := m ((cfg0.win w).arr.view.loc (c : Thread nD τ))
  after w _ := match w with
    | ⟨0, _⟩ => BV m c
  Φ t := match t with
    | ⟨0, _⟩ => ΦIn m c
    | ⟨_ + 1, _⟩ => ΦOut m c
  q _ := fullShare
  owed t := match t with
    | ⟨0, _⟩ => Ow c 0
    | ⟨_ + 1, _⟩ => 0

theorem staged (t : Fin cfg0.N) : (cfg0.win (0 : Fin 1)).fetch t = true := by rw [point t]; rfl

theorem owns_staged (X : (cc0_stg0_0 : Ref sig .tc).ty.Contents (Elt F)) :
    (owns (Ix := Unit) (Name := ℕ) (U := UU) (Lvl := ℕ) (c : Thread nD τ) (Memref.whole cc0_stg0_0) fullShare X : sProp 𝕄)
      = iprop(∃ f : Buf (Elt F) ((c : Thread nD τ).loc cc0_stg0_0), ⌜f = X⌝ ∗ ((c : Thread nD τ).loc cc0_stg0_0) ↦{fullShare} f) := by
  unfold owns; simp only [Memref.view_whole, View.read_whole, View.set_whole]

/-- The staging buffer of `B` on device `c` holds `X`. -/
def stg (X : (cc0_stg0_0 : Ref sig .tc).ty.Contents (Elt F)) : sProp 𝕄 :=
  iprop(∃ f : Buf (Elt F) ((c : Thread nD τ).loc cc0_stg0_0), ⌜f = X⌝ ∗ ((c : Thread nD τ).loc cc0_stg0_0) ↦{fullShare} f)

def bodyPre : sProp 𝕄 :=
  iprop(ΦIn m c ∗ (dats m 0 c).owesAt () t0_0.castSucc ∗ (∃ d, stg c ((dats m 0 c).before (0 : Fin 1) t0_0 d)))
def bodyPost : sProp 𝕄 := iprop(ΦOut m c ∗ (dats m 0 c).owesAt () t0_0.succ ∗ stg c (BV m c))

/-- The staging buffer holds the device's `B` when the body starts. -/
theorem stg_before : iprop(∃ d, stg c ((dats m 0 c).before (0 : Fin 1) t0_0 d)) ⊢ bPts m c := by
  unfold stg bPts
  iintro ⟨%d, %f, %hf, H⟩
  have hx : f = BV m c := by rw [hf]; unfold Dat.before; rw [if_pos (staged t0_0)]; rfl
  subst hx
  iexact H
theorem stg_after : bPts m c ⊢ stg c (BV m c) := by
  unfold stg bPts
  iintro H
  iexists _; isplitr; · (ipureintro; rfl)
  iexact H
theorem owes_before : (dats m 0 c).owesAt () t0_0.castSucc ⊢ owesE (F := F) c 0 := by
  unfold Dat.owesAt Pipeline.owesWithin owesE
  iintro ⟨%W, %hW, HO⟩
  iexists W
  rw [show (dats m 0 c).owed t0_0.castSucc = Ow c 0 from rfl]
  iexact HO
theorem owes_after : owesE (F := F) c 14 ⊢ (dats m 0 c).owesAt () t0_0.succ := by
  unfold Dat.owesAt Pipeline.owesWithin owesE
  rw [Ow_end]
  iintro ⟨%W, HO⟩
  rw [show (dats m 0 c).owed t0_0.succ = 0 from rfl]
  iexists W
  isplitr; · ipureintro; exact fun _ _ => Or.inl trivial
  iexact HO

theorem sound_point : bodyPre m c ⊢ WP c (cc0_body (F := F) aW (Memref.isWhole_whole _) bW (Memref.isWhole_whole _) oW (Memref.isWhole_whole _) cW (Memref.isWhole_whole _) tW (Memref.isWhole_whole _) cc0_scratch2 cc0_scratch3 cc0_scratch4 cc0_scratch5)
    (fun _ => bodyPost m c) := by
  unfold bodyPre ΦIn start
  iintro ⟨⟨⟨⟨%K, HR⟩, Hacc, Hz, Ha, Ho⟩, Hc, Ht⟩, HO, Hb⟩
  ihave Hb := (stg_before m c) $$ Hb
  ihave HO := (owes_before m c) $$ HO
  ihave Hm := (mem_split m c) $$ [Ha Ho Hc Ht]
  · iframe Ha Ho Hc Ht
  iapply (sound_body m K c (fun _ => bodyPost m c))
  isplitl [HR Hacc Hm Hz Hb HO]
  · iframe HR Hacc Hm Hz Hb HO
  iintro ⟨Hm, Hz, Hx, HzB, Hb, HO⟩
  ihave Hm := (mem_join m c) $$ Hm
  ihave HO := (owes_after m c) $$ HO
  ihave Hb := (stg_after m c) $$ Hb
  unfold bodyPost ΦOut
  isplitl [Hm Hz Hx HzB]
  · isplitl [Hm]; · iexact Hm
    iframe Hz Hx HzB
  isplitl [HO] <;> iassumption

/-- The body's obligation on device `c`. -/
theorem body_obligation : BodyObligation (dats (F := F) m 0 c) (defs₀ (F := F)) 𝒱₀ () Set.univ := fun t => by
  rw [point t]
  rw [bigSep_W0, bigSep_W0]
  simp only [owns_staged]
  exact sound_point m c

end Cert.KernelIdeal.Ring
-- ==== Proof.KernelIdeal.Ghost.lean ====
/-
# Dealing the accounts

The cells' schedule is founded once for all devices; each duty's token goes to the device that pays it, each
position to the device that waits, and each device gets the credit its neighbours owe it.
-/
module

public import proofs.«01_k».proof.Proof.KernelIdeal.Oblig

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-! ## The semaphores of a device -/

/-- The kernel's own semaphores: thirty, each a DMA semaphore. -/
def osem (k : Fin 30) : SemLoc sig := .dma (dsem (1 + k.val) (by omega))

theorem ownSemFacts : Pipeline.OwnSemFacts cfg0.spec osem := by decide +kernel

theorem ownSems0_list : (Pipeline.ownSems0 (Ix := Unit) (Name := ℕ) (U := UU) (Lvl := ℕ) (Val := Elt F) (τ := τ) osem c : sProp 𝕄)
    = iprop(zX c 0 ∗ zX c 1 ∗ zX c 2 ∗ zX c 3 ∗ zX c 4 ∗ zX c 5 ∗ zX c 6 ∗ zX c 7 ∗ zX c 8 ∗ zX c 9 ∗ zX c 10 ∗ zX c 11 ∗ zX c 12 ∗ zX c 13 ∗ zX c 14 ∗ zX c 15 ∗ zX c 16 ∗ zX c 17 ∗ zX c 18 ∗ zX c 19 ∗ zX c 20 ∗ zX c 21 ∗ zX c 22 ∗ zX c 23 ∗ zC c 0 ∗ zC c 1 ∗ zC c 2 ∗ zC c 3 ∗ zS c 0 ∗ zS c 1) := by
  rw [Pipeline.ownSems0_eq_of_list c osem [0, 1, 2, 3, 4, 5, 6, 7, 8, 9, 10, 11, 12, 13, 14, 15, 16, 17, 18, 19, 20, 21, 22, 23, 24, 25, 26, 27, 28, 29] (by decide) (by decide)]; rfl
/-- The kernel's own semaphores at zero are those of the transfer cells and those of the local transfers. -/
theorem ownSems0_split : (Pipeline.ownSems0 (Ix := Unit) (Name := ℕ) (U := UU) (Lvl := ℕ) (Val := Elt F) (τ := τ) osem c : sProp 𝕄)
    ⊢ iprop(cellZ c ∗ ownZ c) := by
  rw [ownSems0_list]; unfold cellZ ownZ
  iintro ⟨Hx0, Hx1, Hx2, Hx3, Hx4, Hx5, Hx6, Hx7, Hx8, Hx9, Hx10, Hx11, Hx12, Hx13, Hx14, Hx15, Hx16, Hx17, Hx18, Hx19, Hx20, Hx21, Hx22, Hx23, Hc0, Hc1, Hc2, Hc3, Hs0, Hs1⟩
  isplitl [Hx0 Hx1 Hx2 Hx3 Hx4 Hx5 Hx6 Hx7 Hx8 Hx9 Hx10 Hx11 Hx12 Hx13 Hx14 Hx15 Hx16 Hx17 Hx18 Hx19 Hx20 Hx21 Hx22 Hx23]; · iframe Hx0 Hx1 Hx2 Hx3 Hx4 Hx5 Hx6 Hx7 Hx8 Hx9 Hx10 Hx11 Hx12 Hx13 Hx14 Hx15 Hx16 Hx17 Hx18 Hx19 Hx20 Hx21 Hx22 Hx23
  isplitl [Hc0 Hc1 Hc2 Hc3]; · iframe Hc0 Hc1 Hc2 Hc3
  iframe Hs0 Hs1
theorem ownSems0_join : iprop(cellZ c ∗ ownZ c)
    ⊢ (Pipeline.ownSems0 (Ix := Unit) (Name := ℕ) (U := UU) (Lvl := ℕ) (Val := Elt F) (τ := τ) osem c : sProp 𝕄) := by
  rw [ownSems0_list]; unfold cellZ ownZ
  iintro ⟨⟨Hx0, Hx1, Hx2, Hx3, Hx4, Hx5, Hx6, Hx7, Hx8, Hx9, Hx10, Hx11, Hx12, Hx13, Hx14, Hx15, Hx16, Hx17, Hx18, Hx19, Hx20, Hx21, Hx22, Hx23⟩, ⟨Hc0, Hc1, Hc2, Hc3⟩, ⟨Hs0, Hs1⟩⟩
  iframe Hx0 Hx1 Hx2 Hx3 Hx4 Hx5 Hx6 Hx7 Hx8 Hx9 Hx10 Hx11 Hx12 Hx13 Hx14 Hx15 Hx16 Hx17 Hx18 Hx19 Hx20 Hx21 Hx22 Hx23 Hc0 Hc1 Hc2 Hc3 Hs0 Hs1
/-- The barrier semaphore is the one semaphore that outlives the kernel. -/
theorem unscopedSems0_bar : (unscopedSems0 c : sProp 𝕄) = semVal (barCell c) 0 := by
  unfold unscopedSems0; rw [bigSep_eq_bigSepL_of_eq [SemLoc.reg barS] (by decide) (by decide)]; rfl
theorem cells_zero : (bigSep Finset.univ fun k : Fin 25 => (semVal (kcell (c, k)) 0 : sProp 𝕄)) = iprop(semVal (barCell c) 0 ∗ cellZ c) := by
  rw [bigSep_univ_eq_bigSepL [0, 1, 2, 3, 4, 5, 6, 7, 8, 9, 10, 11, 12, 13, 14, 15, 16, 17, 18, 19, 20, 21, 22, 23, 24] (by decide) (by decide)]; rfl

/-! ## The cells and their tokens -/

theorem csem_injective : ∀ k k' : Fin 25, csem k = csem k' → k = k' := by decide +kernel
theorem kcell_injective : Function.Injective kcell := by
  rintro ⟨c, k⟩ ⟨c', k'⟩ h
  have h1 : c = c' := congrArg (fun g : GSem nD τ sig => g.1.1) h
  have h2 : k = k' := csem_injective k k' (congrArg Prod.snd h)
  rw [h1, h2]
/-- Every cell of every device. -/
def ringCells : Finset (GSem nD τ sig) := Finset.univ.map ⟨kcell, kcell_injective⟩

/-- The duties: one named `false` per cell, and the barrier cell's other, named `true`. -/
def tokOf (x : Dev nD × (Fin 25 ⊕ Unit)) : GSem nD τ sig × ℕ × Bool := match x.2 with
  | .inl k => (kcell (x.1, k), 0, false)
  | .inr _ => (barCell x.1, 0, true)
theorem tokOf_injective : Function.Injective tokOf := by
  rintro ⟨c, k | u⟩ ⟨c', k' | u'⟩ h
  · have := kcell_injective (congrArg Prod.fst h : kcell (c, k) = kcell (c', k'))
    rw [Prod.ext_iff] at this
    dsimp only at this
    rw [this.1, this.2]
  · exact absurd (congrArg (fun x => x.2.2) h : false = true) Bool.false_ne_true
  · exact absurd (congrArg (fun x => x.2.2) h : true = false) (fun h => Bool.false_ne_true h.symm)
  · have := kcell_injective (show kcell (c, 0) = kcell (c', 0) from congrArg Prod.fst h)
    rw [Prod.ext_iff] at this
    dsimp only at this
    rw [this.1]
def ringToks : Finset (GSem nD τ sig × ℕ × Bool) := Finset.univ.map ⟨tokOf, tokOf_injective⟩

/-- The launch's ghost element: the pipeline's rounds, the ring's, no counter. -/
def u₀ : UU :=
  (initOf (Pipeline.cells cfgs cellOf_inj) (Pipeline.launchToks cfgs cellOf_inj), (initOf ringCells ringToks, (1 : Counters)))

theorem launch_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of device `c`'s own cells. -/
def toks : sProp 𝕄 := iprop((bigSep Finset.univ fun k : Fin 25 => dutyTok ER (kcell (c, k)) 0 false) ∗ dutyTok ER (barCell c) 0 true)
/-- Device `c`'s positions at its own cells. -/
def posns : sProp 𝕄 := bigSep Finset.univ fun k : Fin 25 => atPos ER (kcell (c, k)) 0 ∅ 0
/-- What the launch's element deals device `c`. -/
def G : sProp 𝕄 :=
  iprop((bigSep Finset.univ fun k : Fin 25 => roundState ER (Rd m) (kcell (c, k)) 0)
    ∗ posns c ∗ (bigSep Finset.univ fun k : Fin 25 => reached ER (kcell (c, k)) 0) ∗ toks c)

theorem over_cells (Φ : GSem nD τ sig → sProp 𝕄) :
    bigSep ringCells Φ = bigSep Finset.univ fun c : Dev nD => bigSep Finset.univ fun k : Fin 25 => Φ (kcell (c, k)) := by
  unfold ringCells; rw [bigSep_map, bigSep_univ_prod]; rfl
theorem over_toks : bigSep ringToks (fun x => (dutyTok ER x.1 x.2.1 x.2.2 : sProp 𝕄)) = bigSep Finset.univ fun c : Dev nD => toks c := by
  unfold ringToks; rw [bigSep_map, bigSep_univ_prod]
  refine bigSep_congr fun c _ => ?_
  rw [bigSep_univ_sum]
  unfold toks
  congr 1
  exact bigSep_singleton

/-- The ring's element founds every cell's round. -/
theorem fund_ring : BI.own (ER (initOf ringCells ringToks)) ⊢ (|==> bigSep Finset.univ (G m) : sProp 𝕄) := by
  iintro HX
  imod (Rounds.fund ER (Rd m) ringCells ringToks) $$ HX with ⟨Hst, Hr, Hat, Htok⟩
  imodintro
  ihave Hst := (Entails.of_eq (over_cells fun g => roundState ER (Rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G posns; simp only [bigSep_sep']
  iframe Hst Hat Hr Htok

/-- Every cell of device `c` gets its invariant. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => iprop(∃ κ : ℕ, cellInv ER (Rd m) κ (kcell (c, k))))
          ∗ posns c ∗ (bigSep Finset.univ fun k : Fin 25 => reached ER (kcell (c, k)) 0) ∗ toks c ∗ ownZ c) := by
  unfold G
  rw [unscopedSems0_bar]
  iintro ⟨Hos, HB, Hst, Hat, Hr, Htok⟩
  ihave Hos := (ownSems0_split (F := F) c) $$ Hos
  icases Hos with ⟨Hx, Hz⟩
  ihave Hv := (Entails.of_eq (cells_zero (F := F) c).symm) $$ [HB Hx]
  · iframe HB Hx
  imod (show iprop((bigSep Finset.univ fun k : Fin 25 => semVal (kcell (c, k)) 0) ∗ bigSep Finset.univ fun k : Fin 25 => roundState ER (Rd m) (kcell (c, k)) 0)
      ⊢ (|={Set.univ}=> bigSep Finset.univ fun k : Fin 25 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  iframe Hinv Hat Hr Htok Hz

/-! ## The tokens dealt around the ring -/

/-- A device's cells: the barrier's, the send cells, the receive cells. -/
def cellKinds : (Unit ⊕ (Fin 12 ⊕ Fin 12)) ≃ Fin 25 where
  toFun := fun
    | .inl _ => 0
    | .inr (.inl k) => ⟨1 + k.val, by omega⟩
    | .inr (.inr r) => ⟨1 + (12 + r.val), by omega⟩
  invFun n := if n.val = 0 then .inl () else if h : n.val < 13 then .inr (.inl ⟨n.val - 1, by omega⟩) else .inr (.inr ⟨n.val - 13, by omega⟩)
  left_inv := by decide
  right_inv := by decide
theorem fin25 (Φ : Fin 25 → sProp 𝕄) : bigSep Finset.univ Φ
    = iprop(Φ 0 ∗ (bigSep Finset.univ fun k : Fin 12 => Φ ⟨1 + k.val, by omega⟩) ∗ bigSep Finset.univ fun r : Fin 12 => Φ ⟨1 + (12 + r.val), by omega⟩) := by
  rw [bigSep_univ_equiv cellKinds, bigSep_univ_sum, bigSep_univ_sum]
  congr 1
  exact bigSep_singleton
theorem over_kinds (Ψ : GSem nD τ sig → sProp 𝕄) : (bigSep Finset.univ fun k : Fin 25 => Ψ (kcell (c, k)))
    = iprop(Ψ (barCell c) ∗ (bigSep Finset.univ fun k : Fin 12 => Ψ (xCell c k.val (by omega)))
      ∗ bigSep Finset.univ fun r : Fin 12 => Ψ (xCell c (12 + r.val) (by omega))) := by
  rw [fin25]; congr 1

/-- Send `k` of device `c` arrives at one receive cell of one device, and every receive cell is met once. -/
def arrival : (Dev nD × Fin 12) ≃ (Dev nD × Fin 12) where
  toFun x := (sdst x.1 x.2.val, ⟨srcv x.2.val, by have := srcv_lt x.2.isLt; omega⟩)
  invFun y := if y.2.val < 4 then (lf y.1, ⟨2 * (y.2.val % 4), by omega⟩) else if y.2.val < 8 then (rt y.1, ⟨2 * (y.2.val % 4) + 1, by omega⟩)
    else if y.2.val < 10 then (lf y.1, y.2) else (rt y.1, y.2)
  left_inv := by decide +kernel
  right_inv := by decide +kernel

/-- The tokens of the duties device `c` pays. -/
def moves : sProp 𝕄 :=
  iprop(dutyTok ER (barCell (lf c)) 0 false ∗ dutyTok ER (barCell (rt c)) 0 true
    ∗ (bigSep Finset.univ fun k : Fin 12 => dutyTok ER (xCell c k.val (by omega)) 0 false)
    ∗ bigSep Finset.univ fun k : Fin 12 => dutyTok ER (xCell (sdst c k.val) (12 + srcv k.val) (srcv_lt k.isLt)) 0 false)

theorem toks_around : (bigSep Finset.univ fun c : Dev nD => (toks c : sProp 𝕄)) ⊢ bigSep Finset.univ fun c : Dev nD => moves c := by
  unfold toks moves
  simp only [over_kinds _ fun g => (dutyTok ER g 0 false : sProp 𝕄)]
  simp only [bigSep_sep']
  rw [bigSep_univ_equiv ringL (fun c : Dev nD => (dutyTok ER (barCell c) 0 false : sProp 𝕄)),
    bigSep_univ_equiv ringL.symm (fun c : Dev nD => (dutyTok ER (barCell c) 0 true : sProp 𝕄)),
    ← bigSep_univ_prod (fun x : Dev nD × Fin 12 => (dutyTok ER (xCell x.1 (12 + x.2.val) (by omega)) 0 false : sProp 𝕄)),
    bigSep_univ_equiv arrival, bigSep_univ_prod]
  iintro ⟨⟨H1, H2, H3⟩, H4⟩
  isplitl [H1]; · iexact H1
  isplitl [H4]; · iexact H4
  isplitl [H2]; · iexact H2
  iexact H3

/-- What the devices know of the cells, once their invariants have names. -/
def known (K : Dev nD × Fin 25 → ℕ) : sProp 𝕄 :=
  iprop((bigSep Finset.univ fun ck => cellInv ER (Rd m) (K ck) (kcell ck)) ∗ (bigSep Finset.univ fun ck => reached ER (kcell ck) 0))
instance known_persistent (K : Dev nD × Fin 25 → ℕ) : BI.Persistent (known (F := F) m K) := by unfold known; infer_instance

/-- What device `c` has once the cells are shared out. -/
def G' : sProp 𝕄 := iprop((∃ K, known m K) ∗ moves c ∗ posns c ∗ ownZ c)

theorem G'_intro (K : Dev nD × Fin 25 → ℕ) : iprop(known m K ∗ (moves c ∗ posns c ∗ ownZ c)) ⊢ G' m c := by
  unfold G'
  iintro ⟨HK, H⟩
  isplitl [HK]; · (iexists K; iexact HK)
  iexact H

theorem regroup :
    (bigSep Finset.univ fun c : Dev nD => iprop((bigSep Finset.univ fun k : Fin 25 => iprop(∃ κ : ℕ, cellInv ER (Rd m) κ (kcell (c, k))))
          ∗ posns c ∗ (bigSep Finset.univ fun k : Fin 25 => reached ER (kcell (c, k)) 0) ∗ toks c ∗ ownZ c) : sProp 𝕄)
      ⊢ bigSep Finset.univ (G' m) := by
  rw [bigSep_sep', bigSep_sep', bigSep_sep', bigSep_sep', ← bigSep_univ_prod (fun ck : Dev nD × Fin 25 => iprop(∃ κ : ℕ, cellInv ER (Rd m) κ (kcell ck))),
    ← bigSep_univ_prod (fun ck : Dev nD × Fin 25 => (reached ER (kcell ck) 0 : sProp 𝕄))]
  iintro ⟨HI, Hat, Hr, Htok, Hz⟩
  ihave HK := (BI.bigSep_exists_pi Finset.univ (fun (ck : Dev nD × Fin 25) (κ : ℕ) => (cellInv ER (Rd m) κ (kcell ck) : sProp 𝕄))) $$ HI
  icases HK with ⟨%K, HI⟩
  ihave Hmv := (toks_around (F := F)) $$ Htok
  iapply (bigSep_with_persistent (R := known m K) fun c _ => G'_intro m c K)
  isplitl [HI Hr]
  · unfold known; iframe HI Hr
  simp only [bigSep_sep']
  iframe Hmv Hat Hz

/-- All devices' semaphores and rounds at once become every device's share. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Ring
-- ==== Proof.KernelIdeal.Run.lean ====
/-
# The run

The credit the devices start with, and the whole program: on four devices, from any memory, it terminates with
the product of all four blocks in every device's result.
-/
module

public import proofs.«01_k».proof.Proof.KernelIdeal.Ghost
public import Idealize.ShloMosaic.Lib.Pipeline.CollectiveSegs

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

variable (c : Dev nD)

/-! ## The launch's credit -/

/-- The cell due `j` of device `d` goes to, by its number. -/
def dcode (d : Dev nD) (j : Fin 14) : Dev nD × Fin 25 :=
  if j.val = 0 then (lf d, 0) else if j.val = 1 then (rt d, 0)
  else (sdst d (j.val - 2), ⟨1 + (12 + srcv (j.val - 2)), by have := j.isLt; have := srcv_lt (k := j.val - 2) (by omega); omega⟩)
theorem due_code (d : Dev nD) (j : Fin 14) : due d j.val j.isLt = kcell (dcode d j) := by
  unfold due dcode
  split
  · rfl
  · split
    · rfl
    · rw [kcell_x _ (12 + srcv (j.val - 2))]

theorem owed_at (d : Dev nD) (x : Dev nD × Fin 25) :
    Ow d 0 (kcell x) () = (∑ j : Fin 14, if dcode d j = x ∧ j.val < 2 then 1 else 0) + (∑ j : Fin 14, if dcode d j = x ∧ ¬ j.val < 2 then 1 else 0) * NC := by
  unfold Ow
  rw [Finset.sum_apply, Finsupp.finset_sum_apply, Finset.filter_true_of_mem (fun j _ => Nat.zero_le _), Finset.sum_mul, ← Finset.sum_add_distrib]
  refine Finset.sum_congr rfl fun j _ => ?_
  rw [tallyAt_apply, due_code]
  unfold damt
  by_cases h : dcode d j = x
  · rw [if_pos ⟨by rw [h], rfl⟩]
    by_cases hj : j.val < 2
    · rw [if_pos hj, if_pos ⟨h, hj⟩, if_neg (fun h => h.2 hj), Nat.zero_mul]
    · rw [if_neg hj, if_neg (fun h => hj h.2), if_pos ⟨h, hj⟩, Nat.one_mul, Nat.zero_add]
  · rw [if_neg (fun h' => h (kcell_injective h'.1).symm), if_neg (fun h' => h h'.1), if_neg (fun h' => h h'.1), Nat.zero_mul]

/-- Each barrier cell is owed two units and no piece, each receive cell one piece and no unit. -/
theorem count_bar : ∀ c : Dev nD, (∑ d : Dev nD, ∑ j : Fin 14, if dcode d j = (c, 0) ∧ j.val < 2 then 1 else 0) = 2
    ∧ (∑ d : Dev nD, ∑ j : Fin 14, if dcode d j = (c, 0) ∧ ¬ j.val < 2 then 1 else 0) = 0 := by decide +kernel
theorem count_recv : ∀ (c : Dev nD) (r : Fin 12), (∑ d : Dev nD, ∑ j : Fin 14, if dcode d j = (c, ⟨1 + (12 + r.val), by omega⟩) ∧ j.val < 2 then 1 else 0) = 0
    ∧ (∑ d : Dev nD, ∑ j : Fin 14, if dcode d j = (c, ⟨1 + (12 + r.val), by omega⟩) ∧ ¬ j.val < 2 then 1 else 0) = 1 := by decide +kernel

theorem credit_at (x : Dev nD × Fin 25) (a b : ℕ) (ha : (∑ d : Dev nD, ∑ j : Fin 14, if dcode d j = x ∧ j.val < 2 then 1 else 0) = a)
    (hb : (∑ d : Dev nD, ∑ j : Fin 14, if dcode d j = x ∧ ¬ j.val < 2 then 1 else 0) = b) :
    tallyOn (kcell x) (launchCredit (Pipeline.owing fun d => Ow d 0) 0 (kcell x)) = (tallyAt (kcell x) () (a + b * NC) : CellTallies nD τ sig Unit) := by
  unfold tallyAt
  refine congrArg _ (Finsupp.ext fun u => ?_)
  cases u
  rw [Pipeline.launchCredit_owing, Finsupp.single_eq_same, Finset.sum_congr rfl fun d _ => owed_at d x, Finset.sum_add_distrib, ← Finset.sum_mul, ha, hb]

/-- The semaphores of the cells device `c` waits on with credit of its neighbours': the barrier's and the receives'. -/
def credSem (x : Unit ⊕ Fin 12) : SemLoc sig := match x with
  | .inl _ => csem 0
  | .inr r => csem ⟨1 + (12 + r.val), by omega⟩
theorem credSem_injective : Function.Injective credSem := by
  have h : ∀ x y : Unit ⊕ Fin 12, credSem x = credSem y → x = y := by decide +kernel
  exact fun x y => h x y

/-- The credit device `c` starts with. -/
theorem creds : (Pipeline.launchCred (fun d => Ow d 0) c : sProp 𝕄)
    ⊢ iprop(cred (tallyAt (barCell c) () 2) ∗ bigSep Finset.univ fun r : Fin 12 => cred (tallyAt (xCell c (12 + r.val) (by omega)) () NC)) := by
  unfold Pipeline.launchCred
  refine (bigSep_subset (Finset.subset_univ (Finset.univ.map ⟨credSem, credSem_injective⟩))).trans ?_
  rw [bigSep_map, bigSep_univ_sum]
  refine BI.sep_mono ?_ (bigSep_mono fun r _ => ?_)
  · refine (bigSep_elim (Finset.mem_univ ())).trans ?_
    exact Entails.of_eq (congrArg cred ((credit_at (c, 0) 2 0 (count_bar c).1 (count_bar c).2).trans (by rw [Nat.zero_mul]; rfl)))
  · have h := credit_at (c, ⟨1 + (12 + r.val), by omega⟩) 0 1 (count_recv c r).1 (count_recv c r).2
    rw [Nat.one_mul, Nat.zero_add] at h
    exact Entails.of_eq (congrArg cred (h.trans (by rw [kcell_x c (12 + r.val)])))

/-! ## What the body starts from -/

theorem accounts_eq : accounts (F := F) c = iprop((dutyTok ER (barCell (lf c)) 0 false ∗ dutyTok ER (barCell (rt c)) 0 true ∗ atPos ER (barCell c) 0 ∅ 0 ∗ cred (tallyAt (barCell c) () 2))
    ∗ (bigSep Finset.univ fun k : Fin 12 => tok c k) ∗ bigSep Finset.univ fun r : Fin 12 => pend c ⟨12 + r.val, by omega⟩) := by
  unfold accounts
  rw [fin12, fin12]; rfl

theorem accounts_intro : iprop(moves c ∗ posns c ∗ (Pipeline.launchCred (fun d => Ow d 0) c : sProp 𝕄)) ⊢ accounts c := by
  rw [accounts_eq]
  unfold moves posns tok pend
  rw [over_kinds c fun g => (atPos ER g 0 ∅ 0 : sProp 𝕄)]
  simp only [bigSep_sep']
  iintro ⟨⟨H1, H2, H3, H4⟩, ⟨P1, P2, P3⟩, Hc⟩
  ihave Hc := (creds c) $$ Hc
  icases Hc with ⟨C1, C2⟩
  isplitl [H1 H2 P1 C1]; · iframe H1 H2 P1 C1
  isplitl [H3 H4 P2]; · iframe H3 H4 P2
  isplitl [P3]; · iexact P3
  iexact C2

theorem known_recs (K : Dev nD × Fin 25 → ℕ) : iprop(known m K ∗ levAts L lv) ⊢ recs m K := by
  unfold known recs
  iintro ⟨⟨H1, H2⟩, H3⟩
  iframe H1 H2 H3

theorem unscoped_split : (Pipeline.unscopedRestP Pipeline.Prefetch.none cfg0.spec c (fun b => m ((c : Thread nD τ).loc b)) : sProp 𝕄)
    = iprop(aWhole m c ∗ oWhole c (m ((c : Thread nD τ).loc main_v1))) := by
  rw [Pipeline.unscopedRestP_eq_of_list cfg0.spec c Pipeline.Prefetch.none (fun b => m ((c : Thread nD τ).loc b)) [main_arg0, main_v1] (by decide) (by decide)]
  rfl

theorem start_intro :
    iprop(Pipeline.unscopedRestP Pipeline.Prefetch.none cfg0.spec c (fun b => m ((c : Thread nD τ).loc b)) ∗ levAts L lv
        ∗ Pipeline.launchCred (fun d => Ow d 0) c ∗ prngReg c (ρ c) ∗ G' m c)
      ⊢ |={Set.univ}=> iprop(start m c ∗ emp) := by
  rw [unscoped_split]
  unfold G' start
  iintro ⟨⟨Ha, Ho⟩, Hl, Hc, -, ⟨%K, HK⟩, Hm, Hp, Hz⟩
  ihave HR := (known_recs m K) $$ [HK Hl]
  · iframe HK Hl
  ihave Hacc := (accounts_intro c) $$ [Hm Hp Hc]
  · iframe Hm Hp Hc
  imodintro
  isplitl
  · isplitl [HR]; · (iexists K; iexact HR)
    iframe Hacc Hz Ha Ho
  · iempintro

theorem phi_in :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = ΦIn m c from rfl, scopedRest0_eq]
  unfold ΦIn cWhole tWhole
  iintro ⟨Hs, -, H0, H1⟩
  iframe Hs H0 H1

/-- What a device has at the end, besides its semaphores at zero: the block of `A` and the result. -/
def left : sProp 𝕄 := iprop(unscopedSems0 c ∗ aWhole m c ∗ oWhole c (OF m))

theorem phi_out : (dats m 0 c).Φ (Fin.last cfg0.N) ⊢ iprop(left m c ∗ Pipeline.ownSems0 osem c ∗ Pipeline.scopedRest cfg0.spec c) := by
  rw [show (dats m 0 c).Φ (Fin.last cfg0.N) = ΦOut m c from rfl, scopedRest0_eq]
  unfold ΦOut left
  rw [unscopedSems0_bar]
  unfold cWhole tWhole
  iintro ⟨⟨Ha, Ho, H0, H1⟩, Hz, Hx, HB⟩
  ihave Hs := (ownSems0_join (F := F) c) $$ [Hx Hz]
  · iframe Hx Hz
  iframe HB Ha Ho Hs H0 H1

theorem share_eq (w : Fin cfg0.W) : (dats m 0 c).share w = fullShare := by unfold Dat.share; split <;> rfl

theorem stage_low (q : DmaSem sig) (h : q.val = 0) : lv ((c : Thread nD τ), .dma q) () ≤ 0 := by
  show (if q.val < 13 then 0 else if q.val < 21 then 2 else if q.val < 25 then 3 else 0) ≤ 0
  rw [h]; decide
theorem waits : (levAts L lv : sProp 𝕄) ⊢ Pipeline.cellsWaits cfgs (dats m) () 0 c :=
  Pipeline.cellsWaits_intro cfgs (dats m) () 0 c fun w s t => by
    rcases t with ⟨_ | n, ht⟩
    · exact mayWait c _ 0 0 (stage_low c _ (by fin_cases w <;> fin_cases s <;> decide)) (by decide)
    · show _ ⊢ MayWait _ _ () 0
      rw [MayWait_zero]; iintro -; iempintro

/-! ## The run -/

/-- What is read off a device's final memory: its outliving semaphores at zero, its block of `A` unchanged, the product in its result. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_v1) = OF m

theorem read_left (s' : Phys nD τ sig (Elt F)) : iprop(left m c ∗ emp ∗ SI s') ⊢ |={Set.univ}=> iprop(⌜QY m c s'.mem⌝ ∗ SI s') := by
  unfold left aWhole oWhole
  iintro ⟨⟨Hu, Ha, Ho⟩, -, HSI⟩
  icombine HSI Ha gives %ha
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ ha, Buf.eq_of_forall_mem_univ ho⟩
  iexact HSI

/-- What every final state has: every device's arguments as they were, and the whole product in every device's result. -/
def Final (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = OF m

theorem arg1_kept : (dats (F := F) m 0 c).arrAt (0 : Fin 1) cfg0.N = m (win0_0.arr.view.loc (c : Thread nD τ)) :=
  (dats (F := F) m 0 c).arrAt_in (0 : Fin 1) rfl _

/-- On four devices, from any memory with every semaphore at zero, every weakly fair execution terminates; at the end the
    arguments are as they were, every device's result holds the product, every semaphore is at zero. -/
theorem run_main : θ_run defs (onTc (τ := τ) (main (F := F))) (s₀ m ρ) (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => Ow d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (launch_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi_in m) (hout := phi_out m)
    (QY := QY m)
    (hY := read_left m)
    (hQ := fun _ h hs => ⟨fun c => ⟨(h c).2.2.2.1, ((h c).1 0).trans (arg1_kept m c), (h c).2.2.2.2⟩, sem_eq_zero hs fun c => (h c).2.2.1⟩)

end Cert.KernelIdeal.Ring
-- ==== Proof.KernelIdeal.Value.lean ====
/-
# The result is the reference's product

At the ideal floats, the array `OF` that every device ends with is the reference's own term of the whole
arrays, when device `c` holds block `c` of the rows of the reference's `A` and a copy of its `B`.
-/
module

public import proofs.«01_k».proof.Proof.KernelIdeal.Pieces
public import proofs.«01_k».proof.Proof.Gen.ReferenceIdeal
public import Idealize.ShloMosaic.Lib.Layout
public import Idealize.ShloMosaic.Lib.StackMember

@[expose] public section

set_option maxRecDepth 16384

noncomputable section

namespace Cert.KernelIdeal.Ring

open Cert.KernelIdeal Cert.KernelIdeal.Gen
open Idealize.ShloMosaic
open Idealize.ShloMosaic.TcCoe

/-! ## One device's product, entry by entry -/

section Product
variable {F : FTy → Type} [FloatOps F] (m : (ℓ : Loc nD τ sig) → Buf (Elt F) ℓ) (c : Dev nD)

/-- Entry `(r, k)` of tile `t` of a device's `A` is entry `(512 t + r, k)` of that `A`. -/
theorem AT_entry (t : Fin 8) (j : S512x2048.Idx) (i : S4096x2048.Idx) (h0 : (i 0 : ℕ) = 512 * t.val + (j 0 : ℕ))
    (h1 : (i 1 : ℕ) = (j 1 : ℕ)) : AT m c t j = m ((c : Thread nD τ).loc main_arg0) i := by
  have h := fun a => ValueKit.view_emb_slice_whole_unit_val main_arg0 ![512 * t.val, 0] S512x2048.size (inbA t) j a
  have e : (aM t).view.emb j = i := by
    funext a
    match a with
    | ⟨0, _⟩ => exact Fin.ext ((h 0).trans h0.symm)
    | ⟨1, _⟩ => exact Fin.ext ((h 1).trans ((Nat.zero_add _).trans h1.symm))
  exact congrArg (m ((c : Thread nD τ).loc main_arg0)) e

/-- The staged `B` is the device's whole `B`. -/
theorem BV_whole : BV m c = m ((c : Thread nD τ).loc main_arg1) := by
  funext j
  have e : (win0_0.blk (0 : Fin 1)).view.emb j = j := by
    funext a
    match a with
    | ⟨0, _⟩ => exact Fin.ext (by show 0 * 2048 + 1 * (j 0 : ℕ) = (j 0 : ℕ); omega)
    | ⟨1, _⟩ => exact Fin.ext (by show 0 * 4096 + 1 * (j 1 : ℕ) = (j 1 : ℕ); omega)
  exact congrArg (m ((c : Thread nD τ).loc main_arg1)) e

end Product

section AtIdeal
variable (m : (ℓ : Loc nD τ sig) → Buf (Elt Ideal) ℓ)

/-- An entry of a tile's product, at the ideal floats: the sum over the contracted coordinate. -/
theorem CT_entry (c : Dev nD) (t : Fin 8) (r : Fin 512) (q : Fin 4096) :
    CT m c t (ValueIdx.ix2 r q) = ∑ k : Fin 2048, AT m c t (ValueIdx.ix2 r k) * BV m c (ValueIdx.ix2 k q) := by
  have hC : CT m c t = matmul (φ₂ := .bf16) dot_S512x2048_S2048x4096_S512x4096_1_0_0_1_n_n none (AT m c t) (BV m c) (constant S512x4096 .f32 0x00000000#32) := by
    unfold CT k0_pay4
    simp only [shapeCast_self]
    rfl
  rw [hC, matmul_zero_eq_dotGeneral]
  exact StackMember.dotGeneral_plain_apply none (AT m c t) (BV m c) r q

variable (A : FVec Ideal ⟨2, ![16384, 2048]⟩ .bf16) (B : FVec Ideal ⟨2, ![2048, 4096]⟩ .bf16)

/-- The array every device ends with is the reference's product of the whole arrays. -/
theorem OF_eq
    (hA : ∀ c : Dev nD, m ((c.tc : Thread nD τ).loc main_arg0) = Layout.block ⟨2, ![4096, 2048]⟩ ⟨2, ![16384, 2048]⟩ 0 4 c A)
    (hB : ∀ c : Dev nD, m ((c.tc : Thread nD τ).loc main_arg1) = B) :
    OF m = truncf .bf16 (Host.dotGeneral Cert.ReferenceIdeal.dot_S16384x2048_S2048x4096_S16384x4096_1_0_0_1_n_n none A B)
      Cert.ReferenceIdeal.Gen.facts.bitsLt_bf16_f32 := by
  funext i
  obtain ⟨x, y, rfl⟩ : ∃ (x : Fin 16384) (y : Fin 4096), i = ValueIdx.ix2 x y := ⟨i 0, i 1, ValueIdx.eq_ix2 i⟩
  have hx := x.isLt
  let d : Dev nD := ⟨x.val / 4096, by show x.val / 4096 < 4; omega⟩
  let t : Fin 8 := ⟨x.val % 4096 / 512, by omega⟩
  let r : Fin 512 := ⟨x.val % 512, by omega⟩
  let z : Fin 4096 := ⟨x.val % 4096, by omega⟩
  have h1 : OF m (ValueIdx.ix2 x y) = CF m d (ValueIdx.ix2 z y) :=
    OF_of m _ d _ (by show x.val = 4096 * (x.val / 4096) + x.val % 4096; omega) rfl
  have h2 : CF m d (ValueIdx.ix2 z y) = CT m d t (ValueIdx.ix2 r y) :=
    CF_of m d _ t _ (by show x.val % 4096 = 512 * (x.val % 4096 / 512) + x.val % 512; omega) rfl
  have hR : (truncf .bf16 (Host.dotGeneral Cert.ReferenceIdeal.dot_S16384x2048_S2048x4096_S16384x4096_1_0_0_1_n_n none A B)
      Cert.ReferenceIdeal.Gen.facts.bitsLt_bf16_f32 : FVec Ideal ⟨2, ![16384, 4096]⟩ .bf16) (ValueIdx.ix2 x y)
      = ∑ k : Fin 2048, A (ValueIdx.ix2 x k) * B (ValueIdx.ix2 k y) :=
    StackMember.dotGeneral_plain_apply none A B x y
  refine (h1.trans (h2.trans (CT_entry m d t r y))).trans (Eq.trans ?_ hR.symm)
  refine Finset.sum_congr rfl fun k _ => ?_
  have ha : AT m d t (ValueIdx.ix2 r k) = A (ValueIdx.ix2 x k) := by
    refine (AT_entry m d t _ (ValueIdx.ix2 z k) (by show x.val % 4096 = 512 * (x.val % 4096 / 512) + x.val % 512; omega) rfl).trans ?_
    refine (congrFun (hA d) _).trans (congrArg A ?_)
    funext a
    match a with
    | ⟨0, _⟩ => exact Fin.ext (by show x.val / 4096 * 4096 + x.val % 4096 = x.val; omega)
    | ⟨1, _⟩ => rfl
  have hb : BV m d (ValueIdx.ix2 k y) = B (ValueIdx.ix2 k y) := congrFun ((BV_whole m d).trans (hB d)) _
  rw [ha, hb]

end AtIdeal

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Value
public import Idealize.ShloMosaic.Adequacy
public import Idealize.ShloMosaic.Init

@[expose] public section

noncomputable section

namespace Cert.Proof

open Idealize.ShloMosaic Idealize.SL.Sem

/-- The kernel, at the hardware's floats: it runs on four devices, leaves its arguments and returns every semaphore to zero. -/
theorem frame_kernel : Cert.quiescent_Kernel := fun m ρ _ =>
  (θ_run Cert.Kernel.defs _ _).mono (fun _ h => ⟨fun c => ⟨(h.1 c).1, (h.1 c).2.1⟩, h.2⟩) (Cert.Kernel.Ring.run_main (F := Bits) m ρ)

/-- The same at the ideal floats. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.Ring.run_main (F := Ideal) m ρ)

/-- The reference runs and leaves its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From devices holding their rows of the reference's `A` and a copy of its `B`, every device ends with the reference's
    whole product. -/
theorem value_claim : Cert.algebraic_KernelIdeal_ReferenceIdeal := by
  intro m ρ m' ρ' _ hm
  have e := Cert.KernelIdeal.Ring.OF_eq m _ _ (fun c => (hm c).1) (fun c => (hm c).2)
  refine ⟨Cert.KernelIdeal.Ring.OF m, ?_, ?_⟩
  · exact (θ_run Cert.KernelIdeal.defs _ _).mono (fun _ h c => ⟨(h.1 c).2.2, (h.1 c).1, (h.1 c).2.1⟩)
      (Cert.KernelIdeal.Ring.run_main (F := Ideal) m ρ)
  · exact (θ_run Cert.ReferenceIdeal.defs _ _).mono (fun _ h => ⟨(h 0).1.trans e.symm, (h 0).2⟩)
      (Cert.ReferenceIdeal.Value.run (F := Ideal) m' ρ')

theorem claim : Cert.Claim :=
  ⟨Cert.Kernel.Gen.facts, Cert.KernelIdeal.Gen.facts, Cert.ReferenceIdeal.Gen.facts,
    frame_kernel, frame_ideal, frame_reference, trivial, value_claim⟩

end Cert.Proof

end
